-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000 : Shape := ⟨1, ![100000]⟩
abbrev S87x20 : Shape := ⟨2, ![87, 20]⟩
abbrev S128x20 : Shape := ⟨2, ![128, 20]⟩
abbrev S86x128 : Shape := ⟨2, ![86, 128]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : IVec S100000 32) (main_arg1 : FVec F S87x20 .f32) (main_arg2 : FVec F S128x20 .f32) (main_arg3 : FVec F S86x128 .f32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 86#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000 : Shape := ⟨1, ![100000]⟩
abbrev S87x20 : Shape := ⟨2, ![87, 20]⟩
abbrev S128x20 : Shape := ⟨2, ![128, 20]⟩
abbrev S86x128 : Shape := ⟨2, ![86, 128]⟩
abbrev S86x20 : Shape := ⟨2, ![86, 20]⟩
abbrev S100000x128 : Shape := ⟨2, ![100000, 128]⟩
abbrev S3128 : Shape := ⟨1, ![3128]⟩
abbrev S128x128 : Shape := ⟨2, ![128, 128]⟩
abbrev S_ : Shape := ⟨0, ![]⟩
abbrev S128 : Shape := ⟨1, ![128]⟩
abbrev S56x128 : Shape := ⟨2, ![56, 128]⟩
abbrev S56 : Shape := ⟨1, ![56]⟩
abbrev S3032 : Shape := ⟨1, ![3032]⟩
abbrev S88x128 : Shape := ⟨2, ![88, 128]⟩
abbrev S88 : Shape := ⟨1, ![88]⟩

abbrev nBuf : Table → Nat
  | .hbm => 7
  | .local .tc .vmem => 4
  | .shared => 1
  | .local .scVector .vmem => 3
  | _ => 0

abbrev bufTy : (tb : Table) → Fin (nBuf tb) → BufTy
  | .hbm, ⟨0, _⟩ => ⟨S100000, .i32⟩
  | .hbm, ⟨1, _⟩ => ⟨S87x20, .f32⟩
  | .hbm, ⟨2, _⟩ => ⟨S128x20, .f32⟩
  | .hbm, ⟨3, _⟩ => ⟨S86x128, .f32⟩
  | .hbm, ⟨4, _⟩ => ⟨S86x20, .f32⟩
  | .hbm, ⟨5, _⟩ => ⟨S86x128, .f32⟩
  | .hbm, ⟨6, _⟩ => ⟨S100000x128, .f32⟩
  | .local .tc .vmem, ⟨0, _⟩ => ⟨S86x20, .f32⟩
  | .local .tc .vmem, ⟨1, _⟩ => ⟨S128x20, .f32⟩
  | .local .tc .vmem, ⟨2, _⟩ => ⟨S86x128, .f32⟩
  | .local .tc .vmem, ⟨3, _⟩ => ⟨S86x128, .f32⟩
  | .shared, ⟨0, _⟩ => ⟨S86x128, .f32⟩
  | .local .scVector .vmem, ⟨0, _⟩ => ⟨S3128, .i32⟩
  | .local .scVector .vmem, ⟨1, _⟩ => ⟨S128x128, .f32⟩
  | .local .scVector .vmem, ⟨2, _⟩ => ⟨S128x128, .f32⟩
  | _, _ => ⟨S100000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v1_scv : Ref sig .scVector := ⟨.hbm, 5, rfl⟩
abbrev main_arg0_scv : Ref sig .scVector := ⟨.hbm, 0, rfl⟩
abbrev main_v2_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S86x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S86x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S86x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  v2
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v7 : BitVec 1 := Scalar.cmpi .slt v1 c31_i32
  let v8 : BitVec 32 := Scalar.extui v7
  let c0_i32_1 : BitVec 32 := 0#32
  let v9 : BitVec 1 := Scalar.cmpi .ne v8 c0_i32_1
  v9

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  ![v3.toNat]
@[reducible] def k1_t1_loop : Scf.Loop 32 :=
  let c0_i32_10 : BitVec 32 := 0#32
  let c11_i32 : BitVec 32 := 11#32
  let v16 : BitVec 32 := Scalar.addi c0_i32_10 c11_i32
  let c1_i32 : BitVec 32 := 1#32
  ⟨c0_i32_10, v16, c1_i32⟩
def k1_off2 (k1_t1 : Fin k1_t1_loop.trips) : Fin 1 → Nat :=
  let c2_i32_82 : BitVec 32 := 2#32
  let c0_i32_10 : BitVec 32 := 0#32
  let c1_i32 : BitVec 32 := 1#32
  let arg17 : BitVec 32 := Scf.iv c0_i32_10 c1_i32 k1_t1
  let v67 : BitVec 32 := Scalar.muli c2_i32_82 arg17
  let c128_i32 : BitVec 32 := 128#32
  let v68 : BitVec 32 := Scalar.muli v67 c128_i32
  ![v68.toNat]
def k1_cond3 (k1_t1 : Fin k1_t1_loop.trips) : BitVec 1 :=
  let c0_i32_10 : BitVec 32 := 0#32
  let c1_i32 : BitVec 32 := 1#32
  let arg17 : BitVec 32 := Scf.iv c0_i32_10 c1_i32 k1_t1
  let c0_i32_87 : BitVec 32 := 0#32
  let v72 : BitVec 1 := Scalar.cmpi .sgt arg17 c0_i32_87
  let v73 : BitVec 32 := Scalar.extui v72
  let c0_i32_88 : BitVec 32 := 0#32
  let v74 : BitVec 1 := Scalar.cmpi .ne v73 c0_i32_88
  v74

def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c2_i32_82 : BitVec 32 := 2#32
  let c0_i32_10 : BitVec 32 := 0#32
  let c1_i32 : BitVec 32 := 1#32
  let arg17 : BitVec 32 := Scf.iv c0_i32_10 c1_i32 k1_t1
  let v67 : BitVec 32 := Scalar.muli c2_i32_82 arg17
  let c1_i32_129 : BitVec 32 := 1#32
  let v109 : BitVec 32 := Scalar.subi v67 c1_i32_129
  let c128_i32_130 : BitVec 32 := 128#32
  let v110 : BitVec 32 := Scalar.muli v109 c128_i32_130
  let v111 : BitVec 32 := Scalar.addi v3 v110
  let c0_i32_133 : BitVec 32 := 0#32
  ![v111.toNat, 0]
def k1_off4 (k1_t1 : Fin k1_t1_loop.trips) (c1_i32_89 : BitVec 32) : Fin 1 → Nat :=
  let c2_i32_82 : BitVec 32 := 2#32
  let c0_i32_10 : BitVec 32 := 0#32
  let c1_i32 : BitVec 32 := 1#32
  let arg17 : BitVec 32 := Scf.iv c0_i32_10 c1_i32 k1_t1
  let v67 : BitVec 32 := Scalar.muli c2_i32_82 arg17
  let v75 : BitVec 32 := Scalar.addi v67 c1_i32_89
  let c128_i32_90 : BitVec 32 := 128#32
  let v76 : BitVec 32 := Scalar.muli v75 c128_i32_90
  ![v76.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c2_i32_82 : BitVec 32 := 2#32
  let c0_i32_10 : BitVec 32 := 0#32
  let c1_i32 : BitVec 32 := 1#32
  let arg17 : BitVec 32 := Scf.iv c0_i32_10 c1_i32 k1_t1
  let v67 : BitVec 32 := Scalar.muli c2_i32_82 arg17
  let c128_i32_95 : BitVec 32 := 128#32
  let v80 : BitVec 32 := Scalar.muli v67 c128_i32_95
  let v81 : BitVec 32 := Scalar.addi v3 v80
  let c0_i32_98 : BitVec 32 := 0#32
  ![v81.toNat, 0]
def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c2_i32_82 : BitVec 32 := 2#32
  let c0_i32_10 : BitVec 32 := 0#32
  let c1_i32 : BitVec 32 := 1#32
  let arg17 : BitVec 32 := Scf.iv c0_i32_10 c1_i32 k1_t1
  let v67 : BitVec 32 := Scalar.muli c2_i32_82 arg17
  let c1_i32_121 : BitVec 32 := 1#32
  let v102 : BitVec 32 := Scalar.addi v67 c1_i32_121
  let c128_i32_122 : BitVec 32 := 128#32
  let v103 : BitVec 32 := Scalar.muli v102 c128_i32_122
  let v104 : BitVec 32 := Scalar.addi v3 v103
  let c0_i32_125 : BitVec 32 := 0#32
  ![v104.toNat, 0]
def k1_off7 (i : grid1.Coords) (c2688_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let v20 : BitVec 32 := Scalar.addi v3 c2688_i32
  let c0_i32_18 : BitVec 32 := 0#32
  ![v20.toNat, 0]
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c3072_i32_61 : BitVec 32 := 3072#32
  let v52 : BitVec 32 := Scalar.addi v3 c3072_i32_61
  let c0_i32_64 : BitVec 32 := 0#32
  ![v52.toNat, 0]
def k1_cond4 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_2 : BitVec 32 := 31#32
  let v10 : BitVec 1 := Scalar.cmpi .eq v1 c31_i32_2
  let v11 : BitVec 32 := Scalar.extui v10
  let c0_i32_3 : BitVec 32 := 0#32
  let v12 : BitVec 1 := Scalar.cmpi .ne v11 c0_i32_3
  v12

def k1_off9 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  ![v3.toNat]
@[reducible] def k1_t2_loop : Scf.Loop 32 :=
  let c0_i32_5 : BitVec 32 := 0#32
  let c23_i32 : BitVec 32 := 23#32
  let v13 : BitVec 32 := Scalar.addi c0_i32_5 c23_i32
  let c1_i32 : BitVec 32 := 1#32
  ⟨c0_i32_5, v13, c1_i32⟩
def k1_off10 (k1_t2 : Fin k1_t2_loop.trips) : Fin 1 → Nat :=
  let c0_i32_5 : BitVec 32 := 0#32
  let c1_i32 : BitVec 32 := 1#32
  let arg17 : BitVec 32 := Scf.iv c0_i32_5 c1_i32 k1_t2
  let c128_i32 : BitVec 32 := 128#32
  let v30 : BitVec 32 := Scalar.muli arg17 c128_i32
  ![v30.toNat]
def k1_off11 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c0_i32_5 : BitVec 32 := 0#32
  let c1_i32 : BitVec 32 := 1#32
  let arg17 : BitVec 32 := Scf.iv c0_i32_5 c1_i32 k1_t2
  let c128_i32_39 : BitVec 32 := 128#32
  let v38 : BitVec 32 := Scalar.muli arg17 c128_i32_39
  let v39 : BitVec 32 := Scalar.addi v3 v38
  let c0_i32_42 : BitVec 32 := 0#32
  ![v39.toNat, 0]
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  let v3 : BitVec 32 := v2
  let c2944_i32_16 : BitVec 32 := 2944#32
  let v20 : BitVec 32 := Scalar.addi v3 c2944_i32_16
  let c0_i32_19 : BitVec 32 := 0#32
  ![v20.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S87x20 : Shape := ⟨2, ![87, 20]⟩
abbrev S128x20 : Shape := ⟨2, ![128, 20]⟩
abbrev S86x128 : Shape := ⟨2, ![86, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x20 : Shape := ⟨2, ![100000, 20]⟩
abbrev S100000x128 : Shape := ⟨2, ![100000, 128]⟩
abbrev S20x128 : Shape := ⟨2, ![20, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000, .i32⟩
  | .hbm, ⟨1, _⟩ => ⟨S87x20, .f32⟩
  | .hbm, ⟨2, _⟩ => ⟨S128x20, .f32⟩
  | .hbm, ⟨3, _⟩ => ⟨S86x128, .f32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S1, .i32⟩
  | .hbm, ⟨13, _⟩ => ⟨S_, .i32⟩
  | .hbm, ⟨14, _⟩ => ⟨S100000x1, .i32⟩
  | .hbm, ⟨15, _⟩ => ⟨S100000x1, .i1⟩
  | .hbm, ⟨16, _⟩ => ⟨S1x1, .i32⟩
  | .hbm, ⟨17, _⟩ => ⟨S100000x1, .i32⟩
  | .hbm, ⟨18, _⟩ => ⟨S100000x1, .i1⟩
  | .hbm, ⟨19, _⟩ => ⟨S100000x1, .i1⟩
  | .hbm, ⟨20, _⟩ => ⟨S_, .i1⟩
  | .hbm, ⟨21, _⟩ => ⟨S100000, .i1⟩
  | .hbm, ⟨22, _⟩ => ⟨S100000x20, .f32⟩
  | .hbm, ⟨23, _⟩ => ⟨S100000x20, .i1⟩
  | .hbm, ⟨24, _⟩ => ⟨S_, .f32⟩
  | .hbm, ⟨25, _⟩ => ⟨S100000x20, .f32⟩
  | .hbm, ⟨26, _⟩ => ⟨S100000x20, .f32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S1, .i32⟩
  | .hbm, ⟨36, _⟩ => ⟨S_, .i32⟩
  | .hbm, ⟨37, _⟩ => ⟨S100000x1, .i32⟩
  | .hbm, ⟨38, _⟩ => ⟨S100000x1, .i1⟩
  | .hbm, ⟨39, _⟩ => ⟨S1x1, .i32⟩
  | .hbm, ⟨40, _⟩ => ⟨S100000x1, .i32⟩
  | .hbm, ⟨41, _⟩ => ⟨S100000x1, .i1⟩
  | .hbm, ⟨42, _⟩ => ⟨S100000x1, .i1⟩
  | .hbm, ⟨43, _⟩ => ⟨S_, .i1⟩
  | .hbm, ⟨44, _⟩ => ⟨S100000, .i1⟩
  | .hbm, ⟨45, _⟩ => ⟨S100000x128, .f32⟩
  | .hbm, ⟨46, _⟩ => ⟨S100000x128, .i1⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S20x128, .f32⟩
  | .hbm, ⟨51, _⟩ => ⟨S100000x128, .f32⟩
  | .hbm, ⟨52, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩

abbrev nD : Nat := 1
abbrev τ : Topo := Topo.v7x

variable {F : FTy → Type} [FloatOps F]
-- ==== Proof.Same.lean ====
/-
  The kernel as printed and the kernel idealized are one text: no rewrite was applied. Their body tables are therefore
  equal, which lets one run serve for both.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

/-- The two tables of kernel bodies agree, label by label on each kind of processor. -/
theorem bodies_eq : Cert.Kernel.defs₀ (F := F) = Cert.KernelIdeal.defs₀ (F := F) := by
  funext p ℓ a
  rcases p with _ | _ | _ <;>
  · match ℓ, a with
    | 0, _ => rfl
    | 1, _ => rfl

/-- So do the tables with the launches' own labels. -/
theorem defs_eq : Cert.Kernel.defs (F := F) = Cert.KernelIdeal.defs (F := F) :=
  congrArg (fun d => (Cert.KernelIdeal.sc (F := F)).defs (Pipeline.defs Cert.KernelIdeal.pcfgs d)) bodies_eq

end Cert.Proof

end
-- ==== Proof.Base.lean ====
/-
  The set-up of the run: the program as the launch theorem for SparseCore calls sees it, the resource algebra, the
  buffers by name, and the values the kernel moves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra

  Three rounds libraries — the launch's handshakes, the barrier's cells, the cells of the TensorCore call's windows — and
  the counters of the local transfers. -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The rounds library of the TensorCore call's windows. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

/-- The table in HBM, the index array and the result. -/
abbrev tLoc (d : Dev nD) : Loc nD τ sig := (SparseCore.T d).loc main_v1
abbrev zLoc (d : Dev nD) : Loc nD τ sig := (SparseCore.T d).loc main_arg0
abbrev oLoc (d : Dev nD) : Loc nD τ sig := (SparseCore.T d).loc main_v2
/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

/-- The SparseCore and the vector subcore of a task. -/
abbrev cV (L : grid1.Coords) : Fin τ.nSC := (L 0).castLE hcore1
abbrev jV (L : grid1.Coords) : Fin τ.nSub := (L 1).castLE hsub1
/-- The task's thread. -/
abbrev tV (d : Dev nD) (L : grid1.Coords) : Thread nD τ := V d (cV L) (jV L)

/-- The table, the index array, the result, the list buffer, the two row buffers and the shared scratch, as a task sees them. -/
abbrev tbV : Memref sig .scVector .hbm S86x128 .f32 := Memref.whole main_v1_scv
abbrev zV : Memref sig .scVector .hbm S100000 .i32 := Memref.whole main_arg0_scv
abbrev oV : Memref sig .scVector .hbm S100000x128 .f32 := Memref.whole main_v2_scv
abbrev lV : Memref sig .scVector .vmem S3128 .i32 := Memref.whole cc1_scratch0
abbrev aV : Memref sig .scVector .vmem S128x128 .f32 := Memref.whole cc1_scratch1
abbrev bV : Memref sig .scVector .vmem S128x128 .f32 := Memref.whole cc1_scratch2
abbrev shV : Memref sig .scVector .shared S86x128 .f32 := Memref.whole cc1_scratch3

/-- The first row of the result a task writes. -/
def base (L : grid1.Coords) : ℕ := 6256 * (L 1).val + 3128 * (L 0).val

/-! ## Indices -/

/-- The element at row `r` and column `c`. -/
def at2 {n k : ℕ} (r : Fin n) (c : Fin k) : (⟨2, ![n, k]⟩ : Shape).Idx := fun
  | 0 => r
  | 1 => c
  | ⟨_ + 2, h⟩ => absurd h (Nat.not_lt.2 (Nat.le_add_left _ _))
/-- The element at place `r` of a list. -/
def at1 {n : ℕ} (r : Fin n) : (⟨1, ![n]⟩ : Shape).Idx := fun
  | 0 => r
  | ⟨_ + 1, h⟩ => absurd h (Nat.not_lt.2 (Nat.le_add_left _ _))

theorem at2_eta {n k : ℕ} (x : (⟨2, ![n, k]⟩ : Shape).Idx) : at2 (x 0) (x 1) = x := by
  funext a; match a with | 0 => rfl | 1 => rfl
theorem at1_eta {n : ℕ} (x : (⟨1, ![n]⟩ : Shape).Idx) : at1 (x 0) = x := by
  funext a; match a with | 0 => rfl
theorem ext2 {n k : ℕ} {x y : (⟨2, ![n, k]⟩ : Shape).Idx} (h0 : (x 0).val = (y 0).val) (h1 : (x 1).val = (y 1).val) : x = y := by
  funext a; match a with | 0 => exact Fin.ext h0 | 1 => exact Fin.ext h1
theorem ext1 {n : ℕ} {x y : (⟨1, ![n]⟩ : Shape).Idx} (h0 : (x 0).val = (y 0).val) : x = y := by
  funext a; match a with | 0 => exact Fin.ext h0

/-! ## The values the kernel moves -/

/-- The table's row that place `r` of the index array names (0 past the array's end). -/
def rowOf (IX : S100000.Idx → Elt F .i32) (r : ℕ) : ℕ := if h : r < 100000 then (show BitVec 32 from IX (at1 ⟨r, h⟩)).toNat else 0

/-- Row `r` of the result at column `c`: the table's row that the index array names. -/
def outAt (TB : S86x128.Idx → Elt F .f32) (IX : S100000.Idx → Elt F .i32) (r : ℕ) (c : Fin 128) : Elt F .f32 :=
  TB (at2 ⟨rowOf IX r % 86, Nat.mod_lt _ (by decide)⟩ c)

/-- The whole result. -/
def OUT (TB : S86x128.Idx → Elt F .f32) (IX : S100000.Idx → Elt F .i32) : S100000x128.Idx → Elt F .f32 :=
  fun y => outAt TB IX (y 0).val (y 1)

/-- Every place of the index array names a row of the table. -/
def InTable (IX : S100000.Idx → Elt F .i32) : Prop := ∀ r, rowOf IX r < 86

end Cert.Proof

end
-- ==== Proof.Fuse.lean ====
/-
  The TensorCore call of @main.
-/
module

public import proofs.«01_k».proof.Proof.Base
public import Idealize.ShloMosaic.Lib.VecWindow

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
/-!
  The TensorCore call: its one grid point multiplies the fetched configurations by the weights and adds the table. What
  the result's buffer holds after it, as a function of the operands, and the region of @main that runs it.
-/

variable {F : FTy → Type} [FloatOps F]

local notation "𝕄" => MT nD τ sig (HIx 1) (Elt F) ℕ UU ℕ

/-- The fused table: row `r` is the product of the `r`th configuration with the weights, plus the `r`th row of the table. -/
def fused (a : S86x20.Idx → Elt F .f32) (w : S128x20.Idx → Elt F .f32) (z : S86x128.Idx → Elt F .f32) : S86x128.Idx → Elt F .f32 :=
  k0_pay1 (F := F) a w z

/-- Storing over the whole of a whole buffer leaves what was stored. -/
theorem writes_all (f p : S86x128.Idx → Elt F .f32) :
    (stage0_3 0).view.writes (Elt F) f [⟨Rect.unit ![0, 0] S86x128.size inb_S86x128_S86x128_0_0, p⟩] = p :=
  View.read_writes_full (stage0_3 0).view f inb_S86x128_S86x128_0_0 p []

/-- The TensorCore body: from its three operands' buffers and the result's, each whole, it leaves the operands as they
    were and the fused table in the result's. -/
theorem wp_fuse (c : Dev nD) (a : S86x20.Idx → Elt F .f32) (w : S128x20.Idx → Elt F .f32) (z f : S86x128.Idx → Elt F .f32) (Q : PUnit → sProp 𝕄) :
    iprop(((stage0_0 0).view.loc (c.tc : Thread nD τ) ↦{fullShare} a) ∗ ((stage0_1 0).view.loc (c.tc : Thread nD τ) ↦{fullShare} w)
        ∗ ((stage0_2 0).view.loc (c.tc : Thread nD τ) ↦{fullShare} z) ∗ ((stage0_3 0).view.loc (c.tc : Thread nD τ) ↦{fullShare} f)
        ∗ (iprop(((stage0_0 0).view.loc (c.tc : Thread nD τ) ↦{fullShare} a) ∗ ((stage0_1 0).view.loc (c.tc : Thread nD τ) ↦{fullShare} w)
            ∗ ((stage0_2 0).view.loc (c.tc : Thread nD τ) ↦{fullShare} z) ∗ ((stage0_3 0).view.loc (c.tc : Thread nD τ) ↦{fullShare} fused a w z))
          -∗ Q ⟨⟩))
      ⊢ wp frame (wpE (defs₀ (F := F)) 𝒱₀ (c.tc : Thread nD τ) none) Set.univ
          (cc0__fuse_body (stage0_0 0) (hstage0_0 0) (stage0_1 0) (hstage0_1 0) (stage0_2 0) (hstage0_2 0) (stage0_3 0) (hstage0_3 0)) Q := by
  rw [cc0__fuse_body_eq_skeleton]
  unfold cc0__fuse_body_skel
  iintro ⟨Ha, Hw, Hz, Hf, Hk⟩
  sl_exec
  sl_step
  iapply Hk
  isplitl [Ha]; · iexact Ha
  isplitl [Hw]; · iexact Hw
  isplitl [Hz]; · iexact Hz
  have h0 : View.readAt (Elt F) (stage0_0 0).view (Rect.unit ![0, 0] S86x20.size inb_S86x20_S86x20_0_0).toLoadRect a = a :=
    View.readAt_full _ _ _
  have h1 : View.readAt (Elt F) (stage0_1 0).view (Rect.unit ![0, 0] S128x20.size inb_S128x20_S128x20_0_0).toLoadRect w = w :=
    View.readAt_full _ _ _
  have h2 : View.readAt (Elt F) (stage0_2 0).view (Rect.unit ![0, 0] S86x128.size inb_S86x128_S86x128_0_0).toLoadRect z = z :=
    View.readAt_full _ _ _
  rw [h0, h1, h2, writes_all]
  iexact Hf

end Cert.Proof

end
-- ==== Proof.Region.lean ====
/-
  The TensorCore call of @main as a region of its own.
-/
module

public import proofs.«01_k».proof.Proof.Fuse
public import Idealize.ShloMosaic.Lib.Pipeline.ValueKit

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
/-!
  The TensorCore call as a region of @main: entered from @main's buffers at some contents, it leaves the fused table in
  its result and everything else as it was, the core owing what it owed and no wait of a level above 0 recorded.
-/

variable {F : FTy → Type} [FloatOps F]

local notation "𝕄" => MT nD τ sig (HIx 1) (Elt F) ℕ UU ℕ

variable (V : (c : Dev nD) → (b : Ref sig .tc) → Buf (Elt F) ((c.tc : Thread nD τ).loc b))

/-- The table the call leaves, from the contents of its operands. -/
def tableOf (c : Dev nD) : S86x128.Idx → Elt F .f32 := fused (V c main_v0) (V c main_arg2) (V c main_arg3)

/-- The recorded waits that sit at level 0. -/
def lowWaits (c : Dev nD) : Set (SemLoc sig × HIx 1) := {p | (K (F := F)).lev (nD := nD) (N := 1) ((c.tc : Thread nD τ), p.1) p.2 ≤ 0}

/-- The proof data of the call: the arrays at the entry contents, after the body the operands as fetched and the table,
    what the core owes throughout. -/
def dat (c : Dev nD) : Pipeline.Dat τ (Elt F) (HIx 1) ℕ UU ℕ cfg0 c where
  A w := V c (Pipeline.arrRef spec0 w)
  after w _ := match w with
    | ⟨0, _⟩ => V c main_v0
    | ⟨1, _⟩ => V c main_arg2
    | ⟨2, _⟩ => V c main_arg3
    | ⟨3, _⟩ => tableOf V c
  Φ _ := iprop(emp)
  q _ := fullShare
  owed _ := (K (F := F)).Otc c 0
  recorded _ := lowWaits (F := F) c

/-- No pipeline has a prefetched table. -/
abbrev adm : (p : Fin 1) → (pcfgs (F := F) p).Adm := fun p => (cfgs p).toPCfg_adm
/-- The proof data of every pipeline: there is one. -/
def pdats : (p : Fin 1) → (c : Dev nD) → Pipeline.Dat τ (Elt F) (HIx 1) ℕ UU ℕ (Pipeline.pin (pcfgs (F := F)) adm p) c
  | ⟨0, _⟩ => fun c => dat V c

theorem before0 (c : Dev nD) (d : (cfg0.win 0).block.Idx → Elt F (cfg0.win 0).elt) : (dat V c).before 0 t0_0 d = V c main_v0 := by
  unfold Pipeline.Dat.before; rw [if_pos (by decide)]
  show (dat V c).blockOf 0 t0_0 = _
  funext y
  show V c main_v0 (((cfg0.win 0).blk t0_0).view.emb y) = V c main_v0 y
  congr 1
  refine ext2 ?_ ?_ <;> blk_simp <;> (show 0 * _ + _ = _; rw [Nat.zero_mul, Nat.zero_add])
theorem before1 (c : Dev nD) (d : (cfg0.win 1).block.Idx → Elt F (cfg0.win 1).elt) : (dat V c).before 1 t0_0 d = V c main_arg2 := by
  unfold Pipeline.Dat.before; rw [if_pos (by decide)]
  show (dat V c).blockOf 1 t0_0 = _
  funext y
  show V c main_arg2 (((cfg0.win 1).blk t0_0).view.emb y) = V c main_arg2 y
  congr 1
  refine ext2 ?_ ?_ <;> blk_simp <;> (show 0 * _ + _ = _; rw [Nat.zero_mul, Nat.zero_add])
theorem before2 (c : Dev nD) (d : (cfg0.win 2).block.Idx → Elt F (cfg0.win 2).elt) : (dat V c).before 2 t0_0 d = V c main_arg3 := by
  unfold Pipeline.Dat.before; rw [if_pos (by decide)]
  show (dat V c).blockOf 2 t0_0 = _
  funext y
  show V c main_arg3 (((cfg0.win 2).blk t0_0).view.emb y) = V c main_arg3 y
  congr 1
  refine ext2 ?_ ?_ <;> blk_simp <;> (show 0 * _ + _ = _; rw [Nat.zero_mul, Nat.zero_add])

/-- The body at the one point: `wp_fuse`. -/
theorem body_ok (c : Dev nD) : Pipeline.BodyObligation (dat V c) (defs₀ (F := F)) 𝒱₀ none Set.univ := fun t => by
  obtain rfl := fin_N0 t
  rw [bigSep_W0, bigSep_W0]
  simp only [owns_whole_eq]
  rw [show (dat V c).owesAt none t0_0.succ = (dat V c).owesAt none t0_0.castSucc from rfl]
  iintro ⟨-, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply (wp_fuse c (V c main_v0) (V c main_arg2) (V c main_arg3) f3 _)
  isplitl [H0]; · iexact H0
  isplitl [H1]; · iexact H1
  isplitl [H2]; · iexact H2
  isplitl [H3]; · iexact H3
  iintro ⟨H0, H1, H2, H3⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat, tableOf]

/-- What the TensorCore owes before a call is never at the kernels' own index. -/
theorem Otc_none (c : Dev nD) (g : GSem nD τ sig) : (K (F := F)).Otc (N := 1) c 0 g none = 0 := by
  by_contra h
  have := (K (F := F)).lev_of_Otc_pos (N := 1) (Nat.pos_of_ne_zero h)
  simp at this

/-- The result's array after the call is the table. -/
theorem arr_table (c : Dev nD) : (dat V c).arrAt 3 cfg0.N = tableOf V c := by
  refine (dat V c).arrAt_eq_of_after_last 3 t0_0 (by decide +kernel) _ fun j => ?_
  rfl

/-- The operands' and the result's arrays, each whole, the result's at `t`. -/
def arrs (c : Dev nD) (t : S86x128.Idx → Elt F .f32) : sProp 𝕄 :=
  iprop(((c.tc : Thread nD τ).loc main_v0 ↦{fullShare} V c main_v0) ∗ ((c.tc : Thread nD τ).loc main_arg2 ↦{fullShare} V c main_arg2)
    ∗ ((c.tc : Thread nD τ).loc main_arg3 ↦{fullShare} V c main_arg3) ∗ ((c.tc : Thread nD τ).loc main_v1 ↦{fullShare} t))

/-- What the core owes before the SparseCore call, no recorded wait above level 0. -/
def owing (c : Dev nD) : sProp 𝕄 :=
  iprop(∃ W, ⌜(K (F := F)).WBelow (nD := nD) (N := 1) (c.tc : Thread nD τ) W 0⌝ ∗ owes (c.tc : Thread nD τ) ((K (F := F)).Otc c 0) W)

theorem arrays_in (c : Dev nD) :
    ((pdats V 0 c).arrays ((pdats V 0 c).arrAt · 0) : sProp 𝕄) = arrs V c (V c main_v1) := by
  rw [Pipeline.arrays_eq (Pipeline.pin (pcfgs (F := F)) adm) (pdats V) 0 c arr_whole0 ((pdats V 0 c).share_full fun _ => rfl)]
  exact bigSep_W0 _

theorem arrays_out (c : Dev nD) :
    ((pdats V 0 c).arrays ((pdats V 0 c).arrAt · cfg0.N) : sProp 𝕄) = arrs V c (tableOf V c) := by
  rw [Pipeline.arrays_eq (Pipeline.pin (pcfgs (F := F)) adm) (pdats V) 0 c arr_whole0 ((pdats V 0 c).share_full fun _ => rfl)]
  refine (bigSep_W0 _).trans ?_
  show iprop((_ ↦{fullShare} (dat V c).arrAt 0 cfg0.N) ∗ (_ ↦{fullShare} (dat V c).arrAt 1 cfg0.N) ∗ (_ ↦{fullShare} (dat V c).arrAt 2 cfg0.N)
    ∗ (_ ↦{fullShare} (dat V c).arrAt 3 cfg0.N)) = _
  rw [arr_table, (dat V c).arrAt_in 0 rfl, (dat V c).arrAt_in 1 rfl, (dat V c).arrAt_in 2 rfl]
  rfl

theorem owesAt_in (c : Dev nD) (t : Fin (cfg0.N + 1)) : owing (F := F) c ⊢ ((dat V c).owesAt none t : sProp 𝕄) := by
  unfold owing Pipeline.Dat.owesAt Pipeline.owesWithin
  iintro ⟨%W, %hW, H⟩
  iexists W
  isplitr
  · ipureintro; exact fun p hp => Or.inl (hW p hp)
  iexact H

theorem owesAt_out (c : Dev nD) (t : Fin (cfg0.N + 1)) : ((dat V c).owesAt none t : sProp 𝕄) ⊢ owing (F := F) c := by
  unfold owing Pipeline.Dat.owesAt Pipeline.owesWithin
  iintro ⟨%W, %hW, H⟩
  iexists W
  isplitr
  · ipureintro
    intro p hp
    rcases hW hp with h | ⟨w, s, rfl⟩
    · exact h
    · exact le_of_eq ((K (F := F)).lev_none _)
  iexact H

/-- The region: entered with the arrays at the contents `V`, left with the fused table in the result's. -/
def reg : Pipeline.RegionSeg (pcfgs (F := F)) adm (pdats V) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_ok V c).loose
  hwaits c := Pipeline.cellsWaits_intro (Pipeline.pin (pcfgs (F := F)) adm) (pdats V) none 0 c fun _ _ _ =>
    (K (F := F)).mayWait_none _ (Otc_none c)
  pre c := iprop(arrs V c (V c main_v1) ∗ owing c)
  post c := iprop(arrs V c (tableOf V c) ∗ owing c)
  X _ := iprop(emp)
  Y _ := iprop(emp)
  Z _ := iprop(emp)
  hentry c := by
    rw [Pipeline.ownSems0_none, arrays_in]
    iintro ⟨⟨Ha, HO⟩, -, -⟩
    imodintro
    isplitl [Ha]; · iexact Ha
    isplitr
    · unfold Pipeline.prefHeld; rw [show (Finset.univ : Finset (Fin 0)) = ∅ from rfl, BI.bigSep_empty]; iempintro
    isplitl [HO]; · iapply (owesAt_in V c 0); iexact HO
    isplitr <;> iempintro
  hin c := by
    show _ ⊢ (iprop(emp) : sProp 𝕄)
    rw [show (Pipeline.scopedRest (Ix := HIx 1) (Name := ℕ) (U := UU) (Lvl := ℕ) (Val := Elt F) (Pipeline.pin (pcfgs (F := F)) adm 0).spec c : sProp 𝕄) = BI.emp from scopedRest0_eq c]
    iintro ⟨-, -, H⟩; iexact H
  hout c := by
    rw [Pipeline.ownSems0_none,
      show (Pipeline.scopedRest (Ix := HIx 1) (Name := ℕ) (U := UU) (Lvl := ℕ) (Val := Elt F) (Pipeline.pin (pcfgs (F := F)) adm 0).spec c : sProp 𝕄) = BI.emp from scopedRest0_eq c]
    iintro -
    isplitr; · iempintro
    isplitr <;> iempintro
  hexit c := by
    rw [show ((pdats V 0 c).arrays ((pdats V 0 c).arrAt · (Pipeline.pin (pcfgs (F := F)) adm 0).N) : sProp 𝕄) = _ from arrays_out V c]
    iintro ⟨Ha, HO, -, -⟩
    imodintro
    isplitl [Ha]; · iexact Ha
    iapply (owesAt_out V c (Fin.last _)); iexact HO

end Cert.Proof

end
-- ==== Proof.Flights.lean ====
/-
  One indexed copy and one plain copy of a task, as steps over whole buffers: what is in flight carries every buffer the
  copy touches, and its arrival hands them back at the values the kernel means.
-/
module

public import proofs.«01_k».proof.Proof.Base

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The counters the local copies draw their tokens from. -/
abbrev EC : UEmb Counters (MT nD τ sig (HIx 1) (Elt F) ℕ UU ℕ) := countersEmb

/-- What is in flight may carry more: a resource beside it arrives with it. -/
theorem Flight_frame (c : Thread nD τ) {sm : SemLoc sig} {ι : HIx 1} {N : ℕ} {D X : sProp 𝕄} :
    iprop(Transfers.Flight EC c sm ι N D ∗ X) ⊢ (Transfers.Flight EC c sm ι N iprop(D ∗ X) : sProp 𝕄) := by
  unfold Transfers.Flight
  iintro ⟨⟨⟨%R, HR, %hcap, %hpeek⟩, Hcred⟩, HX⟩
  isplitl [HR HX]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hs, HD⟩
      iapply HK
      isplitl [Hs]; · iexact Hs
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-! ## The buffers of a task -/

/-- The first `len` places of the list buffer hold the places of the index array from `b` on. -/
def IsList (IX : S100000.Idx → Elt F .i32) (b len : ℕ) (fs : S3128.Idx → Elt F .i32) : Prop :=
  ∀ p : S3128.Idx, (p 0).val < len → (show BitVec 32 from fs p).toNat = rowOf IX (b + (p 0).val)

/-- The first `n` rows of a buffer are the result's rows from `b` on. -/
def IsChunk (TB : S86x128.Idx → Elt F .f32) (IX : S100000.Idx → Elt F .i32) (b n : ℕ) (f : S128x128.Idx → Elt F .f32) : Prop :=
  ∀ x : S128x128.Idx, (x 0).val < n → f x = outAt TB IX (b + (x 0).val) (x 1)

/-- The result's rows from `lo` up to `hi` are done. -/
def IsDone (TB : S86x128.Idx → Elt F .f32) (IX : S100000.Idx → Elt F .i32) (lo hi : ℕ) (g : S100000x128.Idx → Elt F .f32) : Prop :=
  ∀ y : S100000x128.Idx, lo ≤ (y 0).val → (y 0).val < hi → g y = OUT TB IX y

/-- The elements of the result's rows from `lo` up to `hi`. -/
def rowsIn (lo hi : ℕ) : Finset S100000x128.Idx := Finset.univ.filter fun y => lo ≤ (y 0).val ∧ (y 0).val < hi

theorem mem_rowsIn {lo hi : ℕ} {y : S100000x128.Idx} : y ∈ rowsIn lo hi ↔ lo ≤ (y 0).val ∧ (y 0).val < hi := by
  unfold rowsIn; rw [Finset.mem_filter]; exact ⟨fun h => h.2, fun h => ⟨Finset.mem_univ _, h⟩⟩

/-! ## What an indexed copy writes -/

/-- The place of a one-dimensional list that number `k` names. -/
theorem rowMajor_symm_one {n : ℕ} (k : Fin (⟨1, ![n]⟩ : Shape).numel) : (((⟨1, ![n]⟩ : Shape).rowMajor.symm k) 0).val = k.val := by
  have h := Shape.rowMajor_val_one ((⟨1, ![n]⟩ : Shape).rowMajor.symm k)
  rw [Equiv.apply_symm_apply] at h
  exact h.symm

variable {n : ℕ}

/-- The rows named by a window of the list are rows of the table. -/
theorem list_in (IX : S100000.Idx → Elt F .i32) (hIX : InTable IX) {b len k : ℕ} {fs : S3128.Idx → Elt F .i32} (hfs : IsList IX b len fs) (hk : k + n ≤ len)
    (offl : Fin 1 → ℕ) (hoffl : offl = ![k]) (inbl : ∀ a, offl a + (![n] : Fin 1 → ℕ) a ≤ S3128.size a) (x : (⟨1, ![n]⟩ : Shape).Idx) :
    (show BitVec 32 from (lV.slice (Rect.unit (s := S3128) offl ![n] inbl) (fun _ => rfl)).view.read (Elt F) fs x).toNat < 86 := by
  subst hoffl
  have h := hfs ((Rect.unit (s := S3128) ![k] ![n] inbl).emb x) (by
    have := (x 0).isLt
    rw [Rect.emb_apply]
    show k + 1 * (x 0).val < len
    simp at this; omega)
  exact lt_of_eq_of_lt h (hIX _)

/-- An indexed copy of `n` rows into the first `n` rows of a buffer leaves there the result's rows the list's window names. -/
theorem gather_chunk (TB : S86x128.Idx → Elt F .f32) (IX : S100000.Idx → Elt F .i32) (hIX : InTable IX) {b len k : ℕ} {fs : S3128.Idx → Elt F .i32}
    (hfs : IsList IX b len fs) (hk : k + n ≤ len) (offl : Fin 1 → ℕ) (hoffl : offl = ![k]) (inbl : ∀ a, offl a + (![n] : Fin 1 → ℕ) a ≤ S3128.size a)
    (M : Memref sig .scVector .vmem S128x128 .f32)
    (inbd : ∀ a, (![0, 0] : Fin 2 → ℕ) a + (![n, 128] : Fin 2 → ℕ) a ≤ S128x128.size a)
    (inbt : ∀ a, (![0, 0] : Fin 2 → ℕ) a + S86x128.size a ≤ S86x128.size a)
    (hg : S86x128.Gathers 0 ⟨2, ![n, 128]⟩) (hn : (⟨1, ![n]⟩ : Shape).numel = (⟨2, ![n, 128]⟩ : Shape).size hg.axis')
    (hin : ∀ x, (show BitVec 32 from (lV.slice (Rect.unit (s := S3128) offl ![n] inbl) (fun _ => rfl)).view.read (Elt F) fs x).toNat < S86x128.size hg.axis)
    (fd : M.view.ty.Contents (Elt F)) :
    IsChunk TB IX (b + k) n (M.view.read (Elt F) ((M.slice (Rect.unit (s := S128x128) ![0, 0] ![n, 128] inbd) (fun _ => rfl)).view.write (Elt F) fd
      (SparseCore.gatherPayload hg ((shV.slice (Rect.unit (s := S86x128) ![0, 0] S86x128.size inbt) (fun _ => rfl)).view.read (Elt F) TB)
        (SparseCore.rows ((lV.slice (Rect.unit (s := S3128) offl ![n] inbl) (fun _ => rfl)).view.read (Elt F) fs) hn hin)) Finset.univ)) := by
  subst hoffl
  intro x hx
  let y : (⟨2, ![n, 128]⟩ : Shape).Idx := at2 ⟨(x 0).val, hx⟩ (x 1)
  have hxy : x = (Rect.unit (s := S128x128) ![0, 0] ![n, 128] inbd).emb y := by
    refine ext2 ?_ ?_
    · rw [Rect.emb_apply]; show (x 0).val = 0 + 1 * (x 0).val; omega
    · rw [Rect.emb_apply]; show (x 1).val = 0 + 1 * (x 1).val; omega
  have h1 : ∀ g : M.view.ty.Contents (Elt F), M.view.read (Elt F) g x = (M.slice (Rect.unit (s := S128x128) ![0, 0] ![n, 128] inbd) (fun _ => rfl)).view.read (Elt F) g y := by
    intro g; rw [hxy]; rfl
  rw [h1, View.read_write_univ]
  unfold SparseCore.gatherPayload
  show TB ((Rect.unit (s := S86x128) ![0, 0] S86x128.size inbt).emb (hg.idx _ y)) = _
  unfold outAt
  congr 1
  have hrow : ∀ j : Fin ((⟨2, ![n, 128]⟩ : Shape).size hg.axis'), (SparseCore.rows ((lV.slice (Rect.unit (s := S3128) ![k] ![n] inbl) (fun _ => rfl)).view.read (Elt F) fs) hn hin j).val
      = rowOf IX (b + k + j.val) := by
    intro j
    unfold SparseCore.rows
    have h := hfs ((Rect.unit (s := S3128) ![k] ![n] inbl).emb ((⟨1, ![n]⟩ : Shape).rowMajor.symm (j.cast hn.symm)))
    have e0 : (((Rect.unit (s := S3128) ![k] ![n] inbl).emb ((⟨1, ![n]⟩ : Shape).rowMajor.symm (j.cast hn.symm))) 0).val = k + j.val := by
      rw [Rect.emb_apply]
      show k + 1 * (((⟨1, ![n]⟩ : Shape).rowMajor.symm (j.cast hn.symm)) 0).val = _
      rw [rowMajor_symm_one, Nat.one_mul]; rfl
    have hj : j.val < n := j.isLt
    rw [e0] at h
    rw [Nat.add_assoc]
    exact h (by omega)
  refine ext2 ?_ ?_
  · rw [Rect.emb_apply]
    show 0 + 1 * (hg.idx _ y hg.axis).val = rowOf IX (b + k + (x 0).val) % 86
    rw [Shape.Gathers.idx_axis, hrow, Nat.mod_eq_of_lt (hIX _), Nat.zero_add, Nat.one_mul]
    rfl
  · rw [Rect.emb_apply]
    show 0 + 1 * (hg.idx _ y 1).val = (x 1).val
    rw [Shape.Gathers.idx_of_ne hg _ y 1 (by decide), Nat.zero_add, Nat.one_mul]
    rfl

/-! ## What a plain copy to the result writes -/

/-- A copy of the first `n` rows of a buffer to the result's rows from `o` on extends what is done from `o` to `o + n`. -/
theorem store_done (TB : S86x128.Idx → Elt F .f32) (IX : S100000.Idx → Elt F .i32) {lo o : ℕ} {g : S100000x128.Idx → Elt F .f32} (hgd : IsDone TB IX lo o g)
    (M : Memref sig .scVector .vmem S128x128 .f32) {f : M.view.ty.Contents (Elt F)} (hf : IsChunk TB IX o n (M.view.read (Elt F) f))
    (off : Fin 2 → ℕ) (hoff : off = ![o, 0]) (inbo : ∀ a, off a + (![n, 128] : Fin 2 → ℕ) a ≤ S100000x128.size a)
    (inbd : ∀ a, (![0, 0] : Fin 2 → ℕ) a + (![n, 128] : Fin 2 → ℕ) a ≤ S128x128.size a) :
    IsDone TB IX lo (o + n) ((oV.slice (Rect.unit (s := S100000x128) off ![n, 128] inbo) (fun _ => rfl)).view.write (Elt F) g
      ((M.slice (Rect.unit (s := S128x128) ![0, 0] ![n, 128] inbd) (fun _ => rfl)).view.read (Elt F) f) Finset.univ) := by
  subst hoff
  intro y hlo hhi
  by_cases hy : (y 0).val < o
  · rw [View.write_of_not_mem]
    · exact hgd y hlo hy
    · rw [View.setOn_univ]
      intro hm
      have hm' : y ∈ (Rect.unit (s := S100000x128) ![o, 0] ![n, 128] inbo).set := (View.set_slice_whole main_v2_scv _) ▸ hm
      have := (Rect.mem_set_unit.mp hm') 0
      have h0 : o ≤ (y 0).val := this.1
      omega
  · let x : (⟨2, ![n, 128]⟩ : Shape).Idx := at2 ⟨(y 0).val - o, by omega⟩ (y 1)
    have hyx : y = (oV.slice (Rect.unit (s := S100000x128) ![o, 0] ![n, 128] inbo) (fun _ => rfl)).view.emb x := by
      show y = (Rect.unit (s := S100000x128) ![o, 0] ![n, 128] inbo).emb x
      refine ext2 ?_ ?_
      · rw [Rect.emb_apply]; show (y 0).val = o + 1 * ((y 0).val - o); omega
      · rw [Rect.emb_apply]; show (y 1).val = 0 + 1 * (y 1).val; omega
    have hw : (oV.slice (Rect.unit (s := S100000x128) ![o, 0] ![n, 128] inbo) (fun _ => rfl)).view.write (Elt F) g
      ((M.slice (Rect.unit (s := S128x128) ![0, 0] ![n, 128] inbd) (fun _ => rfl)).view.read (Elt F) f) Finset.univ y
        = (M.slice (Rect.unit (s := S128x128) ![0, 0] ![n, 128] inbd) (fun _ => rfl)).view.read (Elt F) f x := by
      conv_lhs => rw [hyx]
      rw [View.write_emb_of_mem _ _ (Finset.mem_univ x)]
      rfl
    rw [hw]
    have := hf ((Rect.unit (s := S128x128) ![0, 0] ![n, 128] inbd).emb x) (by
      rw [Rect.emb_apply]; show 0 + 1 * ((y 0).val - o) < n; omega)
    refine (Eq.trans rfl this).trans ?_
    unfold OUT
    have e1 : o + (((Rect.unit (s := S128x128) ![0, 0] ![n, 128] inbd).emb x) 0).val = (y 0).val := by
      rw [Rect.emb_apply]; show o + (0 + 1 * ((y 0).val - o)) = _; omega
    have e2 : ((Rect.unit (s := S128x128) ![0, 0] ![n, 128] inbd).emb x) 1 = y 1 := by
      apply Fin.ext; rw [Rect.emb_apply]; show 0 + 1 * (y 1).val = _; omega
    rw [e1, e2]

end Cert.Proof

end
-- ==== Proof.Rules.lean ====
/-
  The steps of a task: start an indexed copy, start a copy to the result, wait for either. Each is stated over whole
  buffers described by what they hold.
-/
module

public import proofs.«01_k».proof.Proof.Flights

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (TB : S86x128.Idx → Elt F .f32) (IX : S100000.Idx → Elt F .i32) (d : Dev nD) (L : grid1.Coords)

/-- A whole buffer whose first `n` rows are the result's rows from `b` on. -/
def Chk (M : Memref sig .scVector .vmem S128x128 .f32) (b n : ℕ) : sProp 𝕄 :=
  iprop(∃ f : M.view.ty.Contents (Elt F), ⌜IsChunk TB IX b n (M.view.read (Elt F) f)⌝ ∗ (M.view.loc (tV d L) ↦{fullShare} f))

/-- A task's rows of the result from `lo` up to `hi`, of which those below `o` are done. -/
def Out (lo hi o : ℕ) : sProp 𝕄 :=
  iprop(∃ g : S100000x128.Idx → Elt F .f32, ⌜IsDone TB IX lo o g⌝ ∗ (oLoc d ↦[rowsIn lo hi]{fullShare} g))

/-- What an indexed copy reads: a share of the shared table and the list buffer. -/
def Src (q : PosShare TreeShare) (b len : ℕ) : sProp 𝕄 :=
  iprop((shV.view.loc (tV d L) ↦{q} TB) ∗ ∃ fs : S3128.Idx → Elt F .i32, ⌜IsList IX b len fs⌝ ∗ (lV.view.loc (tV d L) ↦{fullShare} fs))

/-- What the task still owes, all above its waits at no round; the waits it recorded are among `W` or made at no round or round 0. -/
def OW (O : CellTallies nD τ sig (HIx 1)) (W : Waits sig (HIx 1)) : sProp 𝕄 :=
  iprop(Transfers.MayWaits (tV d L) (none : HIx 1) O ∗ ∃ W', ⌜∀ p ∈ W', p ∈ W ∨ p.2 = none ∨ p.2 = some (0 : Fin 1)⌝ ∗ owes (tV d L) O W')

/-- A copy in flight on a DMA semaphore, bringing `n` rows' worth of credit. -/
abbrev Fly (sm : DmaSem sig) (n : ℕ) (X : sProp 𝕄) : sProp 𝕄 :=
  Transfers.Flight EC (tV d L) (.dma sm) (none : HIx 1) ((⟨2, ![n, 128]⟩ : Shape).numel * 32) X

variable {TB IX d L}

theorem Chk_any {M : Memref sig .scVector .vmem S128x128 .f32} {b n : ℕ} : Chk TB IX d L M b n ⊢ (Chk TB IX d L M 0 0 : sProp 𝕄) := by
  unfold Chk
  iintro ⟨%f, %_, H⟩
  iexists f
  isplitr; · ipureintro; exact fun x hx => absurd hx (Nat.not_lt_zero _)
  iexact H

variable {n : ℕ}

/-- An indexed copy of `n` rows starts, on a semaphore with nothing in flight. -/
theorem wp_gather {α : Type} {Q : α → sProp 𝕄} (hIX : InTable IX) {q : PosShare TreeShare} {b len k b' n' : ℕ} (hn0 : 0 < n) (hk : k + n ≤ len)
    (M : Memref sig .scVector .vmem S128x128 .f32) (hM : M.view.set = Finset.univ) (offl : Fin 1 → ℕ) (hoffl : offl = ![k])
    (inbl : ∀ a, offl a + (![n] : Fin 1 → ℕ) a ≤ S3128.size a)
    (inbd : ∀ a, (![0, 0] : Fin 2 → ℕ) a + (![n, 128] : Fin 2 → ℕ) a ≤ S128x128.size a)
    (inbt : ∀ a, (![0, 0] : Fin 2 → ℕ) a + S86x128.size a ≤ S86x128.size a)
    (hg : S86x128.Gathers 0 ⟨2, ![n, 128]⟩) (hn : (⟨1, ![n]⟩ : Shape).numel = (⟨2, ![n, 128]⟩ : Shape).size hg.axis') (sm : DmaSem sig)
    {hp : (tV d L).2.kind = .scVector} {hsrc} {he} {hsp} {hr} {kk : PUnit → Prog (TpuEff nD τ sig (Elt F) Λ₀ (tV d L).2) α} :
    iprop(Src TB IX d L q b len ∗ Chk TB IX d L M b' n' ∗ semVal (tV d L, SemLoc.dma sm) 0)
      ⊢ iprop((Fly d L sm n iprop(Chk TB IX d L M (b + k) n ∗ Src TB IX d L q b len) -∗ wp frame (wpE (defs₀ (F := F)) 𝒱₀ (tV d L) none) Set.univ (kk ⟨⟩) Q)
        -∗ wp frame (wpE (defs₀ (F := F)) 𝒱₀ (tV d L) none) Set.univ
          (SparseCore.enqueueIndirectGather hp (shV.slice (Rect.unit (s := S86x128) ![0, 0] S86x128.size inbt) (fun _ => rfl))
            (M.slice (Rect.unit (s := S128x128) ![0, 0] ![n, 128] inbd) (fun _ => rfl)) hg
            (lV.slice (Rect.unit (s := S3128) offl ![n] inbl) (fun _ => rfl)) hn sm hsrc he hsp hr >>= kk) Q) := by
  unfold Src Chk
  iintro ⟨⟨Hsh, %fs, %hfs, Hl⟩, ⟨%f, %_, Hd⟩, Hv⟩ Hk
  have hin := list_in IX hIX hfs hk offl hoffl inbl
  have hsD : (M.slice (Rect.unit (s := S128x128) ![0, 0] ![n, 128] inbd) (fun _ => rfl)).view.set ⊆ Finset.univ := Finset.subset_univ _
  have hsL : (lV.slice (Rect.unit (s := S3128) offl ![n] inbl) (fun _ => rfl)).view.set ⊆ Finset.univ := Finset.subset_univ _
  have hsS : (shV.slice (Rect.unit (s := S86x128) ![0, 0] S86x128.size inbt) (fun _ => rfl)).view.set ⊆ Finset.univ := Finset.subset_univ _
  ihave Hd' := (pointsTo_split_subset hsD).1 $$ Hd
  icases Hd' with ⟨Hd, Hdr⟩
  ihave Hl' := (pointsTo_split_subset hsL).1 $$ Hl
  icases Hl' with ⟨Hl, Hlr⟩
  ihave Hs' := (pointsTo_split_subset hsS).1 $$ Hsh
  icases Hs' with ⟨Hs, Hsr⟩
  have hpos : 0 < (⟨2, ![n, 128]⟩ : Shape).numel := by
    simp [Shape.numel, Fin.prod_univ_two]; omega
  iapply (SparseCore.wp_indirectGatherLocal EC 𝒱₀ (tV d L) none (hg := hg) (q := q) (qo := fullShare) (fs := TB) (fd := f) (fo := fs) none
    ((⟨2, ![n, 128]⟩ : Shape).numel * 32)
    ((SparseCore.sum_rowCredit_eq_dmaCredit (M.slice (Rect.unit (s := S128x128) ![0, 0] ![n, 128] inbd) (fun _ => rfl)) hg.axis' (fun _ => rfl)).trans rfl) hpos hin) $$ [Hs Hd Hl Hv]
  · isplitl [Hs]; · iexact Hs
    isplitl [Hd]; · iexact Hd
    isplitl [Hl]; · iexact Hl
    iexact Hv
  iintro HF
  iapply Hk
  ihave HF := (Flight_frame (tV d L)) $$ [HF Hdr]
  · isplitl [HF]; · iexact HF
    iexact Hdr
  ihave HF := (Flight_frame (tV d L)) $$ [HF Hlr]
  · isplitl [HF]; · iexact HF
    iexact Hlr
  ihave HF := (Flight_frame (tV d L)) $$ [HF Hsr]
  · isplitl [HF]; · iexact HF
    iexact Hsr
  iapply (Transfers.Flight_mono EC (tV d L) ?_) $$ HF
  iintro ⟨⟨⟨⟨Hd, Hs, Hl⟩, Hdr⟩, Hlr⟩, Hsr⟩
  ihave Hdr := (Entails.of_eq (SparseCore.pointsTo_rest_write (tV d L) (v := (M.slice (Rect.unit (s := S128x128) ![0, 0] ![n, 128] inbd) (fun _ => rfl)).view) (S := Finset.univ) f
    (SparseCore.gatherPayload hg ((shV.slice (Rect.unit (s := S86x128) ![0, 0] S86x128.size inbt) (fun _ => rfl)).view.read (Elt F) TB)
        (SparseCore.rows ((lV.slice (Rect.unit (s := S3128) offl ![n] inbl) (fun _ => rfl)).view.read (Elt F) fs) hn hin)))) $$ Hdr
  ihave Hd := (pointsTo_split_subset (ℓ := M.view.loc (tV d L)) (q := fullShare) hsD).2 $$ [Hd Hdr]
  · isplitl [Hd]; · iexact Hd
    iexact Hdr
  ihave Hl := (pointsTo_split_subset (ℓ := lV.view.loc (tV d L)) (q := fullShare) (f := fs) hsL).2 $$ [Hl Hlr]
  · isplitl [Hl]; · iexact Hl
    iexact Hlr
  ihave Hs := (pointsTo_split_subset (ℓ := shV.view.loc (tV d L)) (q := q) (f := TB) hsS).2 $$ [Hs Hsr]
  · isplitl [Hs]; · iexact Hs
    iexact Hsr
  isplitl [Hd]
  · iexists _
    isplitr
    · ipureintro
      exact gather_chunk TB IX hIX hfs hk offl hoffl inbl M inbd inbt hg hn hin f
    iexact Hd
  isplitl [Hs]; · iexact Hs
  iexists fs
  isplitr; · ipureintro; exact hfs
  iexact Hl

/-- A copy of the first `n` rows of a buffer to the result's rows from `o` on starts, on a semaphore with nothing in flight. -/
theorem wp_store {α : Type} {Q : α → sProp 𝕄} {lo hi o : ℕ} (hlo : lo ≤ o) (hhi : o + n ≤ hi) (hn0 : 0 < n)
    (M : Memref sig .scVector .vmem S128x128 .f32) (off : Fin 2 → ℕ) (hoff : off = ![o, 0])
    (inbo : ∀ a, off a + (![n, 128] : Fin 2 → ℕ) a ≤ S100000x128.size a)
    (inbd : ∀ a, (![0, 0] : Fin 2 → ℕ) a + (![n, 128] : Fin 2 → ℕ) a ≤ S128x128.size a) (sm : DmaSem sig)
    {hsrc} {hdst} {hsem} {kk : PUnit → Prog (TpuEff nD τ sig (Elt F) Λ₀ (tV d L).2) α} :
    iprop(Out TB IX d lo hi o ∗ Chk TB IX d L M o n ∗ semVal (tV d L, SemLoc.dma sm) 0)
      ⊢ iprop((Fly d L sm n iprop(Out TB IX d lo hi (o + n) ∗ Chk TB IX d L M o n) -∗ wp frame (wpE (defs₀ (F := F)) 𝒱₀ (tV d L) none) Set.univ (kk ⟨⟩) Q)
        -∗ wp frame (wpE (defs₀ (F := F)) 𝒱₀ (tV d L) none) Set.univ
          (.op (.enqueueDma (p := (tV d L).2) (M.slice (Rect.unit (s := S128x128) ![0, 0] ![n, 128] inbd) (fun _ => rfl))
            (.here (oV.slice (Rect.unit (s := S100000x128) off ![n, 128] inbo) (fun _ => rfl))) (.dma sm) hsrc hdst hsem) kk) Q) := by
  unfold Out Chk
  iintro ⟨⟨%g, %hgd, Ho⟩, ⟨%f, %hf, Hm⟩, Hv⟩ Hk
  have hsM : (M.slice (Rect.unit (s := S128x128) ![0, 0] ![n, 128] inbd) (fun _ => rfl)).view.set ⊆ Finset.univ := Finset.subset_univ _
  have hSd : (oV.slice (Rect.unit (s := S100000x128) off ![n, 128] inbo) (fun _ => rfl)).view.set ⊆ rowsIn lo hi := by
    subst hoff
    intro y hm
    have hm' : y ∈ (Rect.unit (s := S100000x128) ![o, 0] ![n, 128] inbo).set := (View.set_slice_whole main_v2_scv _) ▸ hm
    have := (Rect.mem_set_unit.mp hm') 0
    have h0 : o ≤ (y 0).val := this.1
    have h1 : (y 0).val < o + n := this.2
    exact mem_rowsIn.mpr ⟨by omega, by omega⟩
  have hpos : 0 < (⟨2, ![n, 128]⟩ : Shape).numel * 32 := by
    simp [Shape.numel, Fin.prod_univ_two]; omega
  ihave Hm' := (pointsTo_split_subset (ℓ := M.view.loc (tV d L)) (q := fullShare) (f := f) hsM).1 $$ Hm
  icases Hm' with ⟨Hm, Hmr⟩
  iapply (Transfers.wp_dmaLocal EC 𝒱₀ (tV d L) none (src := M.slice (Rect.unit (s := S128x128) ![0, 0] ![n, 128] inbd) (fun _ => rfl))
    (dst := oV.slice (Rect.unit (s := S100000x128) off ![n, 128] inbo) (fun _ => rfl)) (q := fullShare) (fs := f) (Sd := rowsIn lo hi) (fd := g) none ((⟨2, ![n, 128]⟩ : Shape).numel * 32) rfl hpos hSd) $$ [Hm Ho Hv]
  · isplitl [Hm]; · iexact Hm
    isplitl [Ho]; · iexact Ho
    iexact Hv
  iintro HF
  iapply Hk
  ihave HF := (Flight_frame (tV d L)) $$ [HF Hmr]
  · isplitl [HF]; · iexact HF
    iexact Hmr
  iapply (Transfers.Flight_mono EC (tV d L) ?_) $$ HF
  iintro ⟨⟨Ho, Hm⟩, Hmr⟩
  ihave Hm := (pointsTo_split_subset (ℓ := M.view.loc (tV d L)) (q := fullShare) (f := f) hsM).2 $$ [Hm Hmr]
  · isplitl [Hm]; · iexact Hm
    iexact Hmr
  isplitl [Ho]
  · iexists _
    isplitr
    · ipureintro
      exact store_done TB IX hgd M hf off hoff inbo inbd
    iexact Ho
  iexists f
  isplitr; · ipureintro; exact hf
  iexact Hm

/-- A wait for what a semaphore has in flight. -/
theorem wp_await {α : Type} {Q : α → sProp 𝕄} {N : ℕ} {X : sProp 𝕄} {O : CellTallies nD τ sig (HIx 1)} {W : Waits sig (HIx 1)} {sm : DmaSem sig} {s' : Shape} {e' : EltTy} {sp' sp : Space} {s : Shape} {e : EltTy} {κ' : Kind}
    {srcw : Memref sig (tV d L).2.kind sp' s' e'} {dstw : Memref sig κ' sp s e} {hsrc : srcw.view.WordExact} {hdst : dstw.view.WordExact}
    (hN : dstw.view.dmaCredit = N) {kk : PUnit → Prog (TpuEff nD τ sig (Elt F) Λ₀ (tV d L).2) α} :
    iprop(Transfers.Flight EC (tV d L) (.dma sm) (none : HIx 1) N X ∗ OW d L O W)
      ⊢ iprop((iprop(X ∗ semVal (tV d L, SemLoc.dma sm) 0 ∗ OW d L O W) -∗ wp frame (wpE (defs₀ (F := F)) 𝒱₀ (tV d L) none) Set.univ (kk ⟨⟩) Q)
        -∗ wp frame (wpE (defs₀ (F := F)) 𝒱₀ (tV d L) none) Set.univ (.op (.waitDma2 (p := (tV d L).2) sm srcw dstw hsrc hdst) kk) Q) := by
  unfold OW
  iintro ⟨HF, #Hm, %W', %hW', HO⟩ Hk
  ihave Hmw := (Transfers.MayWaits.elim (SemLoc.dma sm)) $$ Hm
  iapply (Transfers.wp_waitLocalO EC 𝒱₀ (tV d L) none none hN) $$ [HF HO Hmw]
  · isplitl [HF]; · iexact HF
    isplitl [HO]; · iexact HO
    iexact Hmw
  iintro ⟨HX, Hv, HO⟩
  iapply Hk
  isplitl [HX]; · iexact HX
  isplitl [Hv]; · iexact Hv
  isplitr; · iexact Hm
  iexists (insert (SemLoc.dma sm, (none : HIx 1)) W')
  isplitr
  · ipureintro
    intro p hp
    rcases Finset.mem_insert.mp hp with rfl | hp
    · exact Or.inr (Or.inl rfl)
    · exact hW' p hp
  iexact HO

end Cert.Proof

end
-- ==== Proof.Lists.lean ====
/-
  The copy of a task's part of the index array into its list buffer.
-/
module

public import proofs.«01_k».proof.Proof.Rules

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The places of the index array from `lo` up to `hi`. -/
def idxIn (lo hi : ℕ) : Finset S100000.Idx := Finset.univ.filter fun y => lo ≤ (y 0).val ∧ (y 0).val < hi

theorem mem_idxIn {lo hi : ℕ} {y : S100000.Idx} : y ∈ idxIn lo hi ↔ lo ≤ (y 0).val ∧ (y 0).val < hi := by
  unfold idxIn; rw [Finset.mem_filter]; exact ⟨fun h => h.2, fun h => ⟨Finset.mem_univ _, h⟩⟩

variable (IX : S100000.Idx → Elt F .i32) (d : Dev nD) (L : grid1.Coords)

/-- A task's places of the index array. -/
def Zs (lo hi : ℕ) : sProp 𝕄 := zLoc d ↦[idxIn lo hi]{fullShare} IX

/-- The list buffer, its first `len` places the index array's from `b` on. -/
def Lst (b len : ℕ) : sProp 𝕄 :=
  iprop(∃ fs : S3128.Idx → Elt F .i32, ⌜IsList IX b len fs⌝ ∗ ((lV).view.loc (tV d L) ↦{fullShare} fs))

variable {IX d L}

/-- What the copied places of the index array are. -/
theorem read_idx {m b : ℕ} (off : Fin 1 → ℕ) (hoff : off = ![b]) (inb : ∀ a, off a + (![m] : Fin 1 → ℕ) a ≤ S100000.size a) (y : (⟨1, ![m]⟩ : Shape).Idx) :
    (show BitVec 32 from ((zV).slice (Rect.unit (s := S100000) off ![m] inb) (fun _ => rfl)).view.read (Elt F) IX y).toNat = rowOf IX (b + (y 0).val) := by
  subst hoff
  have hlt : b + (y 0).val < 100000 := by
    have h0 : b + m ≤ 100000 := inb 0
    have h1 : (y 0).val < m := (y 0).isLt
    omega
  unfold rowOf
  rw [dif_pos hlt]
  have e : (Rect.unit (s := S100000) ![b] ![m] inb).emb y = at1 ⟨b + (y 0).val, hlt⟩ := by
    refine ext1 ?_
    rw [Rect.emb_apply]; show b + 1 * (y 0).val = b + (y 0).val; omega
  show BitVec.toNat (IX ((Rect.unit (s := S100000) ![b] ![m] inb).emb y)) = _
  rw [e]

/-- The elements of the index array a copy of `m` places from `b` on reads. -/
theorem idx_sub {m b : ℕ} (off : Fin 1 → ℕ) (hoff : off = ![b]) (inb : ∀ a, off a + (![m] : Fin 1 → ℕ) a ≤ S100000.size a) :
    ((zV).slice (Rect.unit (s := S100000) off ![m] inb) (fun _ => rfl)).view.set ⊆ idxIn b (b + m) := by
  subst hoff
  intro y hm
  have hm' : y ∈ (Rect.unit (s := S100000) ![b] ![m] inb).set := (View.set_slice_whole main_arg0_scv _) ▸ hm
  have := (Rect.mem_set_unit.mp hm') 0
  have h0 : b ≤ (y 0).val := this.1
  have h1 : (y 0).val < b + m := this.2
  exact mem_idxIn.mpr ⟨h0, h1⟩

/-- A copy of `m` places of the index array into the first `m` places of the list buffer starts. -/
theorem wp_listPart {α : Type} {Q : α → sProp 𝕄} {m b : ℕ} (hm : 0 < m) (off : Fin 1 → ℕ) (hoff : off = ![b])
    (inb : ∀ a, off a + (![m] : Fin 1 → ℕ) a ≤ S100000.size a) (inbl : ∀ a, (![0] : Fin 1 → ℕ) a + (![m] : Fin 1 → ℕ) a ≤ S3128.size a) (sm : DmaSem sig)
    {hsrc} {hdst} {hsem} {kk : PUnit → Prog (TpuEff nD τ sig (Elt F) Λ₀ (tV d L).2) α} :
    iprop(Zs IX d b (b + m) ∗ Lst IX d L b 0 ∗ semVal (tV d L, SemLoc.dma sm) 0)
      ⊢ iprop((Transfers.Flight EC (tV d L) (.dma sm) (none : HIx 1) ((⟨1, ![m]⟩ : Shape).numel * 32) iprop(Zs IX d b (b + m) ∗ Lst IX d L b m)
            -∗ wp frame (wpE (defs₀ (F := F)) 𝒱₀ (tV d L) none) Set.univ (kk ⟨⟩) Q)
        -∗ wp frame (wpE (defs₀ (F := F)) 𝒱₀ (tV d L) none) Set.univ
          (.op (.enqueueDma (p := (tV d L).2) ((zV).slice (Rect.unit (s := S100000) off ![m] inb) (fun _ => rfl))
            (.here ((lV).slice (Rect.unit (s := S3128) ![0] ![m] inbl) (fun _ => rfl))) (.dma sm) hsrc hdst hsem) kk) Q) := by
  unfold Zs Lst
  iintro ⟨Hz, ⟨%f, %_, Hl⟩, Hv⟩ Hk
  have hsub := idx_sub off hoff inb
  have hpos : 0 < (⟨1, ![m]⟩ : Shape).numel * 32 := by simp [Shape.numel]; omega
  ihave Hz' := (pointsTo_split_subset (ℓ := zLoc d) (q := fullShare) (f := IX) hsub).1 $$ Hz
  icases Hz' with ⟨Hz, Hzr⟩
  iapply (Transfers.wp_dmaLocal EC 𝒱₀ (tV d L) none (src := (zV).slice (Rect.unit (s := S100000) off ![m] inb) (fun _ => rfl))
    (dst := (lV).slice (Rect.unit (s := S3128) ![0] ![m] inbl) (fun _ => rfl)) (q := fullShare) (fs := IX) (Sd := Finset.univ) (fd := f) none
    ((⟨1, ![m]⟩ : Shape).numel * 32) rfl hpos (Finset.subset_univ _)) $$ [Hz Hl Hv]
  · isplitl [Hz]; · iexact Hz
    isplitl [Hl]; · iexact Hl
    iexact Hv
  iintro HF
  iapply Hk
  ihave HF := (Flight_frame (tV d L)) $$ [HF Hzr]
  · isplitl [HF]; · iexact HF
    iexact Hzr
  iapply (Transfers.Flight_mono EC (tV d L) ?_) $$ HF
  iintro ⟨⟨Hl, Hz⟩, Hzr⟩
  ihave Hz := (pointsTo_split_subset (ℓ := zLoc d) (q := fullShare) (f := IX) hsub).2 $$ [Hz Hzr]
  · isplitl [Hz]; · iexact Hz
    iexact Hzr
  isplitl [Hz]; · iexact Hz
  iexists _
  isplitr
  · ipureintro
    intro p hp
    let y : (⟨1, ![m]⟩ : Shape).Idx := at1 ⟨(p 0).val, hp⟩
    have hpy : p = ((lV).slice (Rect.unit (s := S3128) ![0] ![m] inbl) (fun _ => rfl)).view.emb y := by
      show p = (Rect.unit (s := S3128) ![0] ![m] inbl).emb y
      refine ext1 ?_
      rw [Rect.emb_apply]; show (p 0).val = 0 + 1 * (p 0).val; omega
    have hw : ((lV).slice (Rect.unit (s := S3128) ![0] ![m] inbl) (fun _ => rfl)).view.write (Elt F) f
        (((zV).slice (Rect.unit (s := S100000) off ![m] inb) (fun _ => rfl)).view.read (Elt F) IX) Finset.univ p
          = ((zV).slice (Rect.unit (s := S100000) off ![m] inb) (fun _ => rfl)).view.read (Elt F) IX y := by
      conv_lhs => rw [hpy]
      rw [View.write_emb_of_mem _ _ (Finset.mem_univ y)]
      rfl
    exact (congrArg BitVec.toNat hw).trans (read_idx off hoff inb y)
  iexact Hl

/-- A copy of 3128 places of the index array over the whole list buffer starts. -/
theorem wp_listWhole {α : Type} {Q : α → sProp 𝕄} {b : ℕ} (off : Fin 1 → ℕ) (hoff : off = ![b])
    (inb : ∀ a, off a + (![3128] : Fin 1 → ℕ) a ≤ S100000.size a) (sm : DmaSem sig)
    {hsrc} {hdst} {hsem} {kk : PUnit → Prog (TpuEff nD τ sig (Elt F) Λ₀ (tV d L).2) α} :
    iprop(Zs IX d b (b + 3128) ∗ Lst IX d L b 0 ∗ semVal (tV d L, SemLoc.dma sm) 0)
      ⊢ iprop((Transfers.Flight EC (tV d L) (.dma sm) (none : HIx 1) (S3128.numel * 32) iprop(Zs IX d b (b + 3128) ∗ Lst IX d L b 3128)
            -∗ wp frame (wpE (defs₀ (F := F)) 𝒱₀ (tV d L) none) Set.univ (kk ⟨⟩) Q)
        -∗ wp frame (wpE (defs₀ (F := F)) 𝒱₀ (tV d L) none) Set.univ
          (.op (.enqueueDma (p := (tV d L).2) ((zV).slice (Rect.unit (s := S100000) off ![3128] inb) (fun _ => rfl))
            (.here lV) (.dma sm) hsrc hdst hsem) kk) Q) := by
  unfold Zs Lst
  iintro ⟨Hz, ⟨%f, %_, Hl⟩, Hv⟩ Hk
  have hsub := idx_sub off hoff inb
  ihave Hz' := (pointsTo_split_subset (ℓ := zLoc d) (q := fullShare) (f := IX) hsub).1 $$ Hz
  icases Hz' with ⟨Hz, Hzr⟩
  iapply (Transfers.wp_dmaLocal EC 𝒱₀ (tV d L) none (src := (zV).slice (Rect.unit (s := S100000) off ![3128] inb) (fun _ => rfl))
    (dst := lV) (q := fullShare) (fs := IX) (Sd := Finset.univ) (fd := f) none
    (S3128.numel * 32) rfl (by decide) (Finset.subset_univ _)) $$ [Hz Hl Hv]
  · isplitl [Hz]; · iexact Hz
    isplitl [Hl]; · iexact Hl
    iexact Hv
  iintro HF
  iapply Hk
  ihave HF := (Flight_frame (tV d L)) $$ [HF Hzr]
  · isplitl [HF]; · iexact HF
    iexact Hzr
  iapply (Transfers.Flight_mono EC (tV d L) ?_) $$ HF
  iintro ⟨⟨Hl, Hz⟩, Hzr⟩
  ihave Hz := (pointsTo_split_subset (ℓ := zLoc d) (q := fullShare) (f := IX) hsub).2 $$ [Hz Hzr]
  · isplitl [Hz]; · iexact Hz
    iexact Hzr
  isplitl [Hz]; · iexact Hz
  iexists _
  isplitr
  · ipureintro
    intro p hp
    have hw : (lV).view.write (Elt F) f (((zV).slice (Rect.unit (s := S100000) off ![3128] inb) (fun _ => rfl)).view.read (Elt F) IX) Finset.univ p
          = ((zV).slice (Rect.unit (s := S100000) off ![3128] inb) (fun _ => rfl)).view.read (Elt F) IX p := by
      have hp' : p = (lV).view.emb p := rfl
      conv_lhs => rw [hp']
      rw [View.write_emb_of_mem _ _ (Finset.mem_univ p)]
      rfl
    exact (congrArg BitVec.toNat hw).trans (read_idx off hoff inb p)
  iexact Hl

end Cert.Proof

end
-- ==== Proof.Loop1.lean ====
/-
  One trip of the full task's loop: two chunks of 128 rows each, the copies to the result running while the next chunk
  is looked up.
-/
module

public import proofs.«01_k».proof.Proof.Rules

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (TB : S86x128.Idx → Elt F .f32) (IX : S100000.Idx → Elt F .i32) (d : Dev nD) (L : grid1.Coords)

/-- A semaphore of the task with nothing in flight. -/
abbrev Idle (sm : DmaSem sig) : sProp 𝕄 := semVal (tV d L, SemLoc.dma sm) 0

/-- The second buffer's state at the start of trip `i`: at the first it is free and no row is done; later the copy of the
    previous trip's second chunk is in flight, and its arrival makes the rows below `base L + 256 * i` done. -/
def Second (lo hi i : ℕ) : sProp 𝕄 :=
  if i = 0 then iprop(Out TB IX d lo hi (base L) ∗ Chk TB IX d L bV 0 0 ∗ Idle d L cc1_scratch7.sem)
  else Fly d L cc1_scratch7.sem 128 iprop(Out TB IX d lo hi (base L + 256 * i) ∗ Chk TB IX d L bV 0 0)

/-- The state at the start of trip `i`: chunk `2 * i` on its way into the first buffer. -/
def Inv1 (q : PosShare TreeShare) (hi : ℕ) (O : CellTallies nD τ sig (HIx 1)) (W : Waits sig (HIx 1)) (i : ℕ) : sProp 𝕄 :=
  iprop(OW d L O W ∗ Fly d L cc1_scratch4.sem 128 iprop(Chk TB IX d L aV (base L + 256 * i) 128 ∗ Src TB IX d L q (base L) 3128)
    ∗ Idle d L cc1_scratch5.sem ∗ Idle d L cc1_scratch6.sem ∗ Second TB IX d L (base L) hi i)

/-- One trip's program. -/
abbrev trip1 (v3 : BitVec 32) (h2 : k1_cond2 L = 1#1) (t : Fin k1_t1_loop.trips) :=
  k1_t1_body (F := F) L tbV (Memref.isWhole_whole _) zV (Memref.isWhole_whole _) oV (Memref.isWhole_whole _) lV (Memref.isWhole_whole _)
    aV (Memref.isWhole_whole _) bV (Memref.isWhole_whole _) shV (Memref.isWhole_whole _) cc1_scratch4 cc1_scratch5 cc1_scratch6 cc1_scratch7
    cc1_scratch8 cc1_scratch9 cc1_scratch10 cc1_scratch11 cc1_scoped0 cc1_scoped1 cc1_scoped2 v3 h2 t ()

variable {TB IX d L}

theorem trips1 : k1_t1_loop.trips = 11 := by decide +kernel

/-- The copy of the previous trip is waited for from the second trip on. -/
theorem cond3_iff : ∀ t : Fin k1_t1_loop.trips, k1_cond3 t = 1#1 ↔ t.val ≠ 0 := by decide +kernel

theorem aV_set : (aV).view.set = Finset.univ := View.set_whole _
theorem bV_set : (bV).view.set = Finset.univ := View.set_whole _

/-- A wait made in one case only, before what follows in both. -/
theorem dite_wait {p : Proc τ} {β : Type} {c : Prop} [Decidable c] {sp sp' : Space} {s s' : Shape} {e e' : EltTy} {κ' : Kind} (sm : DmaSem sig)
    (src : Memref sig p.kind sp' s' e') (dst : c → Memref sig κ' sp s e) (hs : src.view.WordExact) (hd : ∀ h, (dst h).view.WordExact)
    (kk : Prog (TpuEff nD τ sig (Elt F) Λ₀ p) β) :
    (if h : c then Prog.op (.waitDma2 sm src (dst h) hs (hd h)) (fun _ => kk) else kk)
      = (if h : c then Prog.op (.waitDma2 sm src (dst h) hs (hd h)) (fun _ => .ret ⟨⟩) else .ret ⟨⟩) >>= fun (_ : PUnit) => kk := by
  by_cases h : c
  · rw [dif_pos h, dif_pos h]; rfl
  · rw [dif_neg h, dif_neg h]; rfl

/-- A trip takes the state at its start to the state at the next one's. -/
theorem wp_trip1 (hIX : InTable IX) (q : PosShare TreeShare) {hi : ℕ} (hhi : base L + 2816 ≤ hi) (O : CellTallies nD τ sig (HIx 1)) (W : Waits sig (HIx 1))
    (v3 : BitVec 32) (h2 : k1_cond2 L = 1#1) (t : Fin k1_t1_loop.trips) :
    Inv1 TB IX d L q hi O W t.val
      ⊢ wp frame (wpE (defs₀ (F := F)) 𝒱₀ (tV d L) none) Set.univ (trip1 (F := F) L v3 h2 t) (fun _ => (Inv1 TB IX d L q hi O W (t.val + 1) : sProp 𝕄)) := by
  have ht : t.val < 11 := trips1 ▸ t.isLt
  unfold trip1 k1_t1_body
  simp only [k1_part1_eq_skeleton]
  unfold k1_part1_skel
  simp only [SparseCore.waitIndirectGather, Prog.lift, Prog.bind_op, Prog.bind_ret, Prog.pure_eq_ret, Prog.bind_assoc]
  rw [dite_wait (p := (tV d L).2)]
  simp only [Prog.bind_assoc]
  unfold Inv1
  iintro ⟨HOW, HgA, HgB, HsA, HB⟩
  iapply (wp_await (d := d) (L := L) rfl) $$ [HgA HOW]
  · isplitl [HgA]; · iexact HgA
    iexact HOW
  iintro ⟨⟨Ha, Hsrc⟩, HgA, HOW⟩
  -- the second buffer free again
  have key : ∀ {β : Type} (kk : PUnit → Prog (TpuEff nD τ sig (Elt F) Λ₀ (tV d L).2) β) (Q : β → sProp 𝕄),
      iprop(Second TB IX d L (base L) hi t.val ∗ OW d L O W)
        ⊢ iprop((iprop(Out TB IX d (base L) hi (base L + 256 * t.val) ∗ Chk TB IX d L bV 0 0 ∗ Idle d L cc1_scratch7.sem ∗ OW d L O W)
            -∗ wp frame (wpE (defs₀ (F := F)) 𝒱₀ (tV d L) none) Set.univ (kk ⟨⟩) Q)
          -∗ wp frame (wpE (defs₀ (F := F)) 𝒱₀ (tV d L) none) Set.univ
            ((if k1_h3 : k1_cond3 t = 1#1 then
              Prog.op (.waitDma2 (p := (tV d L).2) cc1_scratch7.sem (bV.slice (Rect.unit (s := S128x128) ![0, 0] S128x128.size inb_S128x128_S128x128_0_0) (fun _ => rfl))
                (oV.slice (Rect.unit (s := S100000x128) (k1_off3 L t) S128x128.size (k1_off3_inb L t h2 k1_h3)) (fun _ => rfl)) (View.wordExact_bits rfl) (View.wordExact_bits rfl)) fun _ => .ret ⟨⟩
              else .ret ⟨⟩) >>= kk) Q) := by
    intro β kk Q
    unfold Second
    by_cases h0 : t.val = 0
    · rw [if_pos h0, dif_neg (fun h => (cond3_iff t).mp h h0), h0]
      simp only [Prog.bind_ret]
      iintro ⟨⟨Ho, Hb, Hs⟩, HOW⟩ Hk
      iapply Hk
      isplitl [Ho]; · iexact Ho
      isplitl [Hb]; · iexact Hb
      isplitl [Hs]; · iexact Hs
      iexact HOW
    · rw [if_neg h0, dif_pos ((cond3_iff t).mpr h0)]
      simp only [Prog.bind_op, Prog.bind_ret]
      iintro ⟨Hf, HOW⟩ Hk
      iapply (wp_await (d := d) (L := L) rfl) $$ [Hf HOW]
      · isplitl [Hf]; · iexact Hf
        iexact HOW
      iintro ⟨⟨Ho, Hb⟩, Hs, HOW⟩
      iapply Hk
      isplitl [Ho]; · iexact Ho
      isplitl [Hb]; · iexact Hb
      isplitl [Hs]; · iexact Hs
      iexact HOW
  iapply (key _ _) $$ [HB HOW]
  · isplitl [HB]; · iexact HB
    iexact HOW
  iintro ⟨Ho, Hb, HsB, HOW⟩
  -- chunk 2 t + 1 into the second buffer
  iapply (wp_gather (d := d) (L := L) hIX (b := base L) (len := 3128) (k := 256 * t.val + 128) (by decide) (by omega) bV bV_set (k1_off4 t 1#32) (k1_off4_eq t 0) _ _ _ _ rfl cc1_scratch5.sem) $$ [Hsrc Hb HgB]
  · isplitl [Hsrc]; · iexact Hsrc
    isplitl [Hb]; · iexact Hb
    iexact HgB
  iintro HgB
  -- chunk 2 t to the result
  iapply (wp_store (d := d) (L := L) (lo := base L) (hi := hi) (o := base L + 256 * t.val) (by omega) (by omega) (by decide) aV (k1_off5 L t) (k1_off5_eq L t) _ _ cc1_scratch6.sem) $$ [Ho Ha HsA]
  · isplitl [Ho]; · iexact Ho
    isplitl [Ha]; · iexact Ha
    iexact HsA
  iintro HsA
  iapply (wp_await (d := d) (L := L) rfl) $$ [HgB HOW]
  · isplitl [HgB]; · iexact HgB
    iexact HOW
  iintro ⟨⟨Hb, Hsrc⟩, HgB, HOW⟩
  iapply (wp_await (d := d) (L := L) rfl) $$ [HsA HOW]
  · isplitl [HsA]; · iexact HsA
    iexact HOW
  iintro ⟨⟨Ho, Ha⟩, HsA, HOW⟩
  iapply (wp_gather (d := d) (L := L) hIX (b := base L) (len := 3128) (k := 256 * t.val + 256) (by decide) (by omega) aV aV_set (k1_off4 t 2#32) (k1_off4_eq t 1) _ _ _ _ rfl cc1_scratch4.sem) $$ [Hsrc Ha HgA]
  · isplitl [Hsrc]; · iexact Hsrc
    isplitl [Ha]; · iexact Ha
    iexact HgA
  iintro HgA
  have e1 : base L + (256 * t.val + 128) = base L + 256 * t.val + 128 := by omega
  rw [e1]
  iapply (wp_store (d := d) (L := L) (lo := base L) (hi := hi) (o := base L + 256 * t.val + 128) (by omega) (by omega) (by decide) bV (k1_off6 L t) (k1_off6_eq L t) _ _ cc1_scratch7.sem) $$ [Ho Hb HsB]
  · isplitl [Ho]; · iexact Ho
    isplitl [Hb]; · iexact Hb
    iexact HsB
  iintro HsB
  rw [wp_ret]
  imodintro
  isplitl [HOW]; · iexact HOW
  isplitl [HgA]
  · rw [show base L + 256 * (t.val + 1) = base L + (256 * t.val + 256) by omega]
    iexact HgA
  isplitl [HgB]; · iexact HgB
  isplitl [HsA]; · iexact HsA
  unfold Second
  rw [if_neg (Nat.succ_ne_zero _), show base L + 256 * (t.val + 1) = base L + 256 * t.val + 128 + 128 by omega]
  iapply (Transfers.Flight_mono EC (tV d L) ?_) $$ HsB
  iintro ⟨Ho, Hb⟩
  isplitl [Ho]; · iexact Ho
  iapply Chk_any $$ Hb

end Cert.Proof

end
-- ==== Proof.Full.lean ====
/-
  A full task after the barrier: its 3128 places of the index array, then eleven trips of two chunks, then two chunks and
  a tail of 56 rows.
-/
module

public import proofs.«01_k».proof.Proof.Lists
public import proofs.«01_k».proof.Proof.Loop1

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (TB : S86x128.Idx → Elt F .f32) (IX : S100000.Idx → Elt F .i32) (d : Dev nD) (L : grid1.Coords)

/-- The programs of a full task's first and second part. -/
abbrev part2 (v3 : BitVec 32) (h2 : k1_cond2 L = 1#1) :=
  k1_part2 (F := F) L tbV (Memref.isWhole_whole _) zV (Memref.isWhole_whole _) oV (Memref.isWhole_whole _) lV (Memref.isWhole_whole _)
    aV (Memref.isWhole_whole _) bV (Memref.isWhole_whole _) shV (Memref.isWhole_whole _) cc1_scratch4 cc1_scratch5 cc1_scratch6 cc1_scratch7
    cc1_scratch8 cc1_scratch9 cc1_scratch10 cc1_scratch11 cc1_scoped0 cc1_scoped1 cc1_scoped2 v3 h2
abbrev part3 (v3 : BitVec 32) (h2 : k1_cond2 L = 1#1) :=
  k1_part3 (F := F) L tbV (Memref.isWhole_whole _) zV (Memref.isWhole_whole _) oV (Memref.isWhole_whole _) lV (Memref.isWhole_whole _)
    aV (Memref.isWhole_whole _) bV (Memref.isWhole_whole _) shV (Memref.isWhole_whole _) cc1_scratch4 cc1_scratch5 cc1_scratch6 cc1_scratch7
    cc1_scratch8 cc1_scratch9 cc1_scratch10 cc1_scratch11 cc1_scoped0 cc1_scoped1 cc1_scoped2 v3 h2

/-- The share of the shared table a task reads. -/
def Tbl (q : PosShare TreeShare) : sProp 𝕄 := (shV).view.loc (tV d L) ↦{q} TB

variable {TB IX d L}

theorem Src_intro {q : PosShare TreeShare} {b len : ℕ} : iprop(Tbl TB d L q ∗ Lst IX d L b len) ⊢ (Src TB IX d L q b len : sProp 𝕄) := by
  unfold Src Tbl Lst; exact BIBase.Entails.rfl

theorem Src_elim {q : PosShare TreeShare} {b len : ℕ} : Src TB IX d L q b len ⊢ (iprop(Tbl TB d L q ∗ Lst IX d L b len) : sProp 𝕄) := by
  unfold Src Tbl Lst; exact BIBase.Entails.rfl

/-- The first part: it ends with chunk 22 in the first buffer and chunk 23 on its way into the second, the rows before chunk 22 done. -/
theorem wp_part2 (hIX : InTable IX) (q : PosShare TreeShare) (O : CellTallies nD τ sig (HIx 1)) (W : Waits sig (HIx 1))
    (v3 : BitVec 32) (h2 : k1_cond2 L = 1#1) :
    iprop(OW d L O W ∗ Tbl TB d L q ∗ Lst IX d L (base L) 0 ∗ Zs IX d (base L) (base L + 3128) ∗ Out TB IX d (base L) (base L + 3072) (base L)
        ∗ Chk TB IX d L aV 0 0 ∗ Chk TB IX d L bV 0 0 ∗ Idle d L cc1_scoped1.sem ∗ Idle d L cc1_scratch4.sem ∗ Idle d L cc1_scratch5.sem
        ∗ Idle d L cc1_scratch6.sem ∗ Idle d L cc1_scratch7.sem)
      ⊢ wp frame (wpE (defs₀ (F := F)) 𝒱₀ (tV d L) none) Set.univ (part2 (F := F) L v3 h2)
          (fun _ => (iprop(OW d L O W ∗ Zs IX d (base L) (base L + 3128) ∗ Out TB IX d (base L) (base L + 3072) (base L + 2816)
            ∗ Chk TB IX d L aV (base L + 2816) 128 ∗ Fly d L cc1_scratch5.sem 128 iprop(Chk TB IX d L bV (base L + 2944) 128 ∗ Src TB IX d L q (base L) 3128)
            ∗ Idle d L cc1_scoped1.sem ∗ Idle d L cc1_scratch4.sem ∗ Idle d L cc1_scratch6.sem ∗ Idle d L cc1_scratch7.sem) : sProp 𝕄)) := by
  unfold part2
  simp only [k1_part2_eq_skeleton]
  unfold k1_part2_skel
  simp only [SparseCore.waitIndirectGather, Prog.lift, Prog.bind_op, Prog.bind_ret, Prog.pure_eq_ret, Prog.bind_assoc]
  iintro ⟨HOW, Ht, Hl, Hz, Ho, Ha, Hb, Hc1, HgA, HgB, HsA, HsB⟩
  iapply (wp_listWhole (b := base L) (d := d) (L := L) (k1_off1 L) (k1_off1_eq L) _ cc1_scoped1.sem) $$ [Hz Hl Hc1]
  · isplitl [Hz]; · iexact Hz
    isplitl [Hl]; · iexact Hl
    iexact Hc1
  iintro Hc1
  iapply (wp_await (d := d) (L := L) rfl) $$ [Hc1 HOW]
  · isplitl [Hc1]; · iexact Hc1
    iexact HOW
  iintro ⟨⟨Hz, Hl⟩, Hc1, HOW⟩
  ihave Hsrc := Src_intro $$ [Ht Hl]
  · isplitl [Ht]; · iexact Ht
    iexact Hl
  iapply (wp_gather (d := d) (L := L) hIX (b := base L) (len := 3128) (k := 0) (by decide) (by omega) aV aV_set ![0] rfl _ _ _ _ rfl cc1_scratch4.sem) $$ [Hsrc Ha HgA]
  · isplitl [Hsrc]; · iexact Hsrc
    isplitl [Ha]; · iexact Ha
    iexact HgA
  iintro HgA
  sl_for (fun (k : ℕ) (_ : Unit) => (Inv1 TB IX d L q (base L + 3072) O W k : sProp 𝕄)) $$ [HOW HgA HgB HsA Ho Hb HsB]
  · intro k acc
    exact wp_trip1 hIX q (by omega) O W v3 h2 k
  · unfold Inv1 Second
    rw [if_pos rfl]
    isplitl [HOW]; · iexact HOW
    isplitl [HgA]; · iexact HgA
    isplitl [HgB]; · iexact HgB
    isplitl [HsA]; · iexact HsA
    isplitl [Ho]; · iexact Ho
    isplitl [Hb]; · iexact Hb
    iexact HsB
  iintro %_ HI
  unfold Inv1 Second
  have htr : Scf.trips k1_t1_loop.lb k1_t1_loop.ub k1_t1_loop.st = 11 := trips1
  rw [htr, if_neg (by decide)]
  icases HI with ⟨HOW, HgA, HgB, HsA, HsB⟩
  iapply (wp_await (d := d) (L := L) rfl) $$ [HgA HOW]
  · isplitl [HgA]; · iexact HgA
    iexact HOW
  iintro ⟨⟨Ha, Hsrc⟩, HgA, HOW⟩
  iapply (wp_await (d := d) (L := L) rfl) $$ [HsB HOW]
  · isplitl [HsB]; · iexact HsB
    iexact HOW
  iintro ⟨⟨Ho, Hb⟩, HsB, HOW⟩
  iapply (wp_gather (d := d) (L := L) hIX (b := base L) (len := 3128) (k := 2944) (by decide) (by omega) bV bV_set ![2944] rfl _ _ _ _ rfl cc1_scratch5.sem) $$ [Hsrc Hb HgB]
  · isplitl [Hsrc]; · iexact Hsrc
    isplitl [Hb]; · iexact Hb
    iexact HgB
  iintro HgB
  rw [wp_ret]
  imodintro
  isplitl [HOW]; · iexact HOW
  isplitl [Hz]; · iexact Hz
  isplitl [Ho]; · iexact Ho
  isplitl [Ha]; · iexact Ha
  isplitl [HgB]; · iexact HgB
  isplitl [Hc1]; · iexact Hc1
  isplitl [HgA]; · iexact HgA
  isplitl [HsA]; · iexact HsA
  iexact HsB

/-- The second part: chunk 22 is stored, chunk 23's copy to the result runs, the tail of 56 rows is in the first buffer. -/
theorem wp_part3 (hIX : InTable IX) (q : PosShare TreeShare) (O : CellTallies nD τ sig (HIx 1)) (W : Waits sig (HIx 1))
    (v3 : BitVec 32) (h2 : k1_cond2 L = 1#1) :
    iprop(OW d L O W ∗ Out TB IX d (base L) (base L + 3072) (base L + 2816) ∗ Chk TB IX d L aV (base L + 2816) 128
        ∗ Fly d L cc1_scratch5.sem 128 iprop(Chk TB IX d L bV (base L + 2944) 128 ∗ Src TB IX d L q (base L) 3128)
        ∗ Idle d L cc1_scratch6.sem ∗ Idle d L cc1_scratch7.sem ∗ Idle d L cc1_scratch8.sem)
      ⊢ wp frame (wpE (defs₀ (F := F)) 𝒱₀ (tV d L) none) Set.univ (part3 (F := F) L v3 h2)
          (fun _ => (iprop(OW d L O W ∗ Src TB IX d L q (base L) 3128 ∗ Chk TB IX d L aV (base L + 3072) 56
            ∗ Fly d L cc1_scratch7.sem 128 iprop(Out TB IX d (base L) (base L + 3072) (base L + 3072) ∗ Chk TB IX d L bV (base L + 2944) 128)
            ∗ Idle d L cc1_scratch5.sem ∗ Idle d L cc1_scratch6.sem ∗ Idle d L cc1_scratch8.sem) : sProp 𝕄)) := by
  unfold part3
  simp only [k1_part3_eq_skeleton]
  unfold k1_part3_skel
  simp only [SparseCore.waitIndirectGather, Prog.lift, Prog.bind_op, Prog.bind_ret, Prog.pure_eq_ret, Prog.bind_assoc]
  iintro ⟨HOW, Ho, Ha, HgB, HsA, HsB, HgT⟩
  iapply (wp_store (d := d) (L := L) (lo := base L) (hi := base L + 3072) (o := base L + 2816) (by omega) (by omega) (by decide) aV (k1_off7 L 2816#32) (k1_off7_eq L 1) _ _ cc1_scratch6.sem) $$ [Ho Ha HsA]
  · isplitl [Ho]; · iexact Ho
    isplitl [Ha]; · iexact Ha
    iexact HsA
  iintro HsA
  iapply (wp_await (d := d) (L := L) rfl) $$ [HgB HOW]
  · isplitl [HgB]; · iexact HgB
    iexact HOW
  iintro ⟨⟨Hb, Hsrc⟩, HgB, HOW⟩
  iapply (wp_await (d := d) (L := L) rfl) $$ [HsA HOW]
  · isplitl [HsA]; · iexact HsA
    iexact HOW
  iintro ⟨⟨Ho, Ha⟩, HsA, HOW⟩
  iapply (wp_gather (d := d) (L := L) hIX (b := base L) (len := 3128) (k := 3072) (by decide) (by omega) aV aV_set ![3072] rfl _ _ _ _ rfl cc1_scratch8.sem) $$ [Hsrc Ha HgT]
  · isplitl [Hsrc]; · iexact Hsrc
    isplitl [Ha]; · iexact Ha
    iexact HgT
  iintro HgT
  iapply (wp_store (d := d) (L := L) (lo := base L) (hi := base L + 3072) (o := base L + 2944) (by omega) (by omega) (by decide) bV (k1_off7 L 2944#32) (k1_off7_eq L 2) _ _ cc1_scratch7.sem) $$ [Ho Hb HsB]
  · isplitl [Ho]; · iexact Ho
    isplitl [Hb]; · iexact Hb
    iexact HsB
  iintro HsB
  iapply (wp_await (d := d) (L := L) rfl) $$ [HgT HOW]
  · isplitl [HgT]; · iexact HgT
    iexact HOW
  iintro ⟨⟨Ha, Hsrc⟩, HgT, HOW⟩
  rw [wp_ret]
  imodintro
  isplitl [HOW]; · iexact HOW
  isplitl [Hsrc]; · iexact Hsrc
  isplitl [Ha]; · iexact Ha
  isplitl [HsB]; · iexact HsB
  isplitl [HgB]; · iexact HgB
  isplitl [HsA]; · iexact HsA
  iexact HgT

end Cert.Proof

end
-- ==== Proof.Own.lean ====
/-
  A tile's own semaphores and buffers, one by one.
-/
module

public import proofs.«01_k».proof.Proof.Full

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-- Over a finite set, a family of its members apart from the rest. -/
theorem bigSep_members {I : Type} [DecidableEq I] {n : ℕ} {s : Finset I} {f : Fin n → I} (hf : Function.Injective f) (hs : ∀ k, f k ∈ s)
    (Φ : I → sProp 𝕄) :
    bigSep s Φ = iprop((bigSep Finset.univ fun k => Φ (f k)) ∗ bigSep (s \ Finset.univ.image f) Φ) := by
  have hsub : Finset.univ.image f ⊆ s := fun x hx => by obtain ⟨k, -, rfl⟩ := Finset.mem_image.mp hx; exact hs k
  have him : Finset.univ.image f = Finset.univ.map ⟨f, hf⟩ := by ext x; simp
  conv_lhs => rw [bigSep_sdiff_split hsub]
  have hm : bigSep (Finset.univ.image f) Φ = bigSep Finset.univ fun k => Φ (f k) := by rw [him, bigSep_map]; rfl
  rw [hm]; rfl

/-- The kernel's transfer semaphores. -/
def dmaSem : Fin 11 → DmaSem sig :=
  ![cc1_scoped0.sem, cc1_scoped1.sem, cc1_scoped2.sem, cc1_scratch4.sem, cc1_scratch5.sem, cc1_scratch6.sem, cc1_scratch7.sem,
    cc1_scratch8.sem, cc1_scratch9.sem, cc1_scratch10.sem, cc1_scratch11.sem]

theorem dmaSem_inj : Function.Injective dmaSem := by decide

theorem dmaSem_scoped : ∀ k, (SemLoc.dma (dmaSem k) : SemLoc sig).isScoped .scVector = true := by decide

/-- The tile's cell of one of them. -/
abbrev dmaCell (k : Fin 11) : GSem nD τ sig := (tV d L, .dma (dmaSem k))

/-- A tile's semaphores of its own: the kernel's transfer semaphores, each at zero, and the rest. -/
theorem ownSems0_tile :
    (ownSems0 (tV d L) : sProp 𝕄)
      = iprop((Idle d L cc1_scoped0.sem ∗ Idle d L cc1_scoped1.sem ∗ Idle d L cc1_scoped2.sem ∗ Idle d L cc1_scratch4.sem
            ∗ Idle d L cc1_scratch5.sem ∗ Idle d L cc1_scratch6.sem ∗ Idle d L cc1_scratch7.sem ∗ Idle d L cc1_scratch8.sem
            ∗ Idle d L cc1_scratch9.sem ∗ Idle d L cc1_scratch10.sem ∗ Idle d L cc1_scratch11.sem)
          ∗ bigSep (ownCells (tV d L) \ Finset.univ.image (dmaCell d L)) fun g => semVal g 0) := by
  unfold SparseCore.Cfg.ownSems0
  rw [bigSep_members (f := dmaCell d L) (fun a b h => dmaSem_inj (by simpa [dmaCell] using h))
      (fun k => SparseCore.Cfg.mem_ownCells.mpr ⟨rfl, dmaSem_scoped k⟩),
    bigSep_univ_eq_bigSepL [0, 1, 2, 3, 4, 5, 6, 7, 8, 9, 10] (by decide) (by decide)]
  rfl

/-- The tile's scratch buffers: the list and the two row buffers. -/
def vmemRef : Fin 3 → DevRef τ sig :=
  ![(Proc.scVector (cV L) (jV L)).devRef cc1_scratch0, (Proc.scVector (cV L) (jV L)).devRef cc1_scratch1, (Proc.scVector (cV L) (jV L)).devRef cc1_scratch2]

theorem vmemRef_inj : Function.Injective (vmemRef L) := by
  intro a b
  fin_cases a <;> fin_cases b <;> intro h <;> first | rfl | exact absurd h (by simp [vmemRef, Proc.devRef])

/-- A tile's buffers of its own: the three of them, at some contents, and the rest. -/
theorem ownBufs_tile :
    (ownBufs (tV d L) : sProp 𝕄)
      = iprop(((∃ f, (tV d L).loc cc1_scratch0 ↦{fullShare} f) ∗ (∃ f, (tV d L).loc cc1_scratch1 ↦{fullShare} f)
            ∗ (∃ f, (tV d L).loc cc1_scratch2 ↦{fullShare} f))
          ∗ bigSep (ownRefs (τ := τ) (.scVector (cV L) (jV L)) \ Finset.univ.image (vmemRef L)) fun b => iprop(∃ f, ((d, b) : Loc nD τ sig) ↦{fullShare} f)) := by
  unfold SparseCore.Cfg.ownBufs
  rw [bigSep_members (f := vmemRef L) (vmemRef_inj L)
      (fun k => by fin_cases k <;> exact SparseCore.Cfg.mem_ownRefs_of_owner rfl),
    bigSep_univ_eq_bigSepL [0, 1, 2] (by decide) (by decide)]
  rfl

end Cert.Proof

end
-- ==== Proof.Fill.lean ====
/-
  Filling the shared table: vector subcore 0 copies it from HBM and waits; the others skip it.
-/
module

public import proofs.«01_k».proof.Proof.Own

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The share of the table in HBM that SparseCore `c` reads through. -/
abbrev tblShare (c : Fin 2) : PosShare TreeShare := ShareLeaves.leaf 1 fullShare c

variable (TB : S86x128.Idx → Elt F .f32) (d : Dev nD) (L : grid1.Coords)

/-- What subcore 0 fills the shared table from and into; nothing for the others. -/
def Fill (c : Fin 2) (j : ℕ) (cs : Fin τ.nSC) : sProp 𝕄 :=
  if j = 0 then iprop((tLoc d ↦{tblShare c} TB) ∗ ∃ f, shLoc d cs ↦{fullShare} f) else iprop(emp)
/-- The table in HBM, back from it. -/
def Kept (c : Fin 2) (j : ℕ) : sProp 𝕄 :=
  if j = 0 then iprop(tLoc d ↦{tblShare c} TB) else iprop(emp)
/-- The shared table, filled. -/
def Filled (j : ℕ) (cs : Fin τ.nSC) : sProp 𝕄 :=
  if j = 0 then iprop(shLoc d cs ↦{fullShare} TB) else iprop(emp)

theorem fill_cond : ∀ j : Fin 16, (Scalar.cmpi .ne (Scalar.extui (Scalar.cmpi .eq (BitVec.ofNat 32 j.val) 0#32)) 0#32 = 1#1) ↔ j.val = 0 := by decide

theorem tbV_set : (tbV).view.set = Finset.univ := View.set_whole _

variable {TB d L}

/-- The filling, for subcore 0 and for the others. -/
theorem wp_fill {α : Type} {Q : α → sProp 𝕄} {O : CellTallies nD τ sig (HIx 1)} {W : Waits sig (HIx 1)} {c : Prop} [Decidable c] (hc : c ↔ (L 1).val = 0)
    {h₁ h₂ h₃ h₄ h₅} {kk : Prog (TpuEff nD τ sig (Elt F) Λ₀ (tV d L).2) α} :
    iprop(OW d L O W ∗ Idle d L cc1_scoped0.sem ∗ Fill TB d (L 0) (L 1).val (cV L))
      ⊢ iprop((iprop(OW d L O W ∗ Idle d L cc1_scoped0.sem ∗ Kept TB d (L 0) (L 1).val ∗ Filled TB d (L 1).val (cV L))
            -∗ wp frame (wpE (defs₀ (F := F)) 𝒱₀ (tV d L) none) Set.univ kk Q)
        -∗ wp frame (wpE (defs₀ (F := F)) 𝒱₀ (tV d L) none) Set.univ
          (if c then .op (.enqueueDma (p := (tV d L).2) tbV (.here shV) (.dma cc1_scoped0.sem) h₁ h₂ h₃)
            (fun _ => .op (.waitDma2 (p := (tV d L).2) cc1_scoped0.sem tbV shV h₄ h₅) (fun _ => kk)) else kk) Q) := by
  unfold Fill Kept Filled
  by_cases h0 : (L 1).val = 0
  · rw [if_pos h0, if_pos h0, if_pos h0, if_pos (hc.mpr h0)]
    iintro ⟨HOW, Hv, Ht, %f, Hs⟩ Hk
    have ht : (iprop((tbV).view.loc (tV d L) ↦[(tbV).view.set]{tblShare (L 0)} TB) : sProp 𝕄) = iprop(tLoc d ↦{tblShare (L 0)} TB) := by rw [tbV_set]
    ihave Ht := (Entails.of_eq ht.symm) $$ Ht
    iapply (Transfers.wp_dmaLocal EC 𝒱₀ (tV d L) none (src := tbV) (dst := shV) (q := tblShare (L 0)) (fs := TB) (Sd := Finset.univ) (fd := f) none
      (S86x128.numel * 32) rfl (by decide) (Finset.subset_univ _)) $$ [Ht Hs Hv]
    · isplitl [Ht]; · iexact Ht
      isplitl [Hs]; · iexact Hs
      iexact Hv
    iintro HF
    iapply (wp_await (d := d) (L := L) rfl) $$ [HF HOW]
    · isplitl [HF]; · iexact HF
      iexact HOW
    iintro ⟨⟨Hs, Ht⟩, Hv, HOW⟩
    iapply Hk
    isplitl [HOW]; · iexact HOW
    isplitl [Hv]; · iexact Hv
    ihave Ht := (Entails.of_eq ht) $$ Ht
    isplitl [Ht]; · iexact Ht
    have hw : (shV).view.write (Elt F) f ((tbV).view.read (Elt F) TB) Finset.univ = TB := by
      funext p
      have := View.write_emb_of_mem (v := (shV).view) (Val := Elt F) f ((tbV).view.read (Elt F) TB) (Finset.mem_univ p)
      exact this
    rw [hw]
    iexact Hs
  · rw [if_neg h0, if_neg h0, if_neg h0, if_neg (fun h => h0 (hc.mp h))]
    iintro ⟨HOW, Hv, -⟩ Hk
    iapply Hk
    isplitl [HOW]; · iexact HOW
    isplitl [Hv]; · iexact Hv
    isplitl []; · iempintro
    iempintro

end Cert.Proof

end
-- ==== Proof.Barrier.lean ====
/-
  The barrier: each tile's cell, the one round on it, what the round hands over, and what a tile holds and owes for it.
-/
module

public import proofs.«01_k».proof.Proof.Base

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The cells and their one round -/

/-- The barrier semaphore of vector subcore `j` of SparseCore `c` of device `d`. -/
abbrev barCell (d : Dev nD) (c : Fin τ.nSC) (j : Fin τ.nSub) : GSem nD τ sig := (V d c j, .reg sc_bar0)

theorem bar_ne_go : (sc_bar0 : Sem sig) ≠ sc_go := by decide

/-- The share of the shared table that vector subcore `j` reads through. -/
abbrev readShare (j : Fin τ.nSub) : PosShare TreeShare := ShareLeaves.leaf 4 fullShare j

section Sched
variable (TB : Dev nD → S86x128.Idx → Elt F .f32)

/-- Whether a semaphore is a barrier cell. -/
def barrierCell : GSem nD τ sig → Bool
  | ((_, .scVector _ _), sm) => decide (sm = .reg sc_bar0)
  | _ => false

/-- What arrival `n` in a tile's round hands that tile: the arrival of subcore 0, which filled the shared table, a read
    share of it; the others, nothing. -/
def handed (g : GSem nD τ sig) (n : ℕ) : sProp 𝕄 :=
  match g with
  | ((d, .scVector c j), _) => if n = 0 then iprop(shLoc d c ↦{readShare j} TB d) else iprop(emp)
  | _ => iprop(emp)

/-- One round on each barrier cell, of one unit from each tile of the SparseCore, named by the tile's number. -/
def barSched : Rounds.Schedule (GSem nD τ sig) ℕ 𝕄 where
  duties g r := if barrierCell g ∧ r = 0 then (Finset.univ : Finset (Fin τ.nSub)).image Fin.val else ∅
  amount _ _ _ := 1
  payload g _ n := handed TB g n
  amount_pos _ _ _ _ := Nat.one_pos

instance barSched_storable (g : GSem nD τ sig) (r n : ℕ) : BI.Storable (upEmb : UEmb _ 𝕄) ((barSched TB).payload g r n) := by
  show BI.Storable upEmb (handed TB g n)
  unfold handed
  rcases g with ⟨⟨d, _ | c | ⟨c, i⟩⟩, sm⟩ <;> dsimp only <;> (repeat' split) <;> infer_instance

theorem barSched_first (d : Dev nD) (c : Fin τ.nSC) (j : Fin τ.nSub) :
    (barSched TB).duties (barCell d c j) 0 = (Finset.univ : Finset (Fin τ.nSub)).image Fin.val := by simp [barSched, barrierCell]
theorem barSched_later (g : GSem nD τ sig) (r : ℕ) (hr : 1 ≤ r) : (barSched TB).duties g r = ∅ :=
  if_neg fun h => absurd h.2 (Nat.ne_of_gt hr)
theorem barSched_mem (d : Dev nD) (c : Fin τ.nSC) (j i : Fin τ.nSub) : i.val ∈ (barSched TB).duties (barCell d c j) 0 := by
  rw [barSched_first]; exact Finset.mem_image_of_mem _ (Finset.mem_univ i)
theorem barSched_expect (d : Dev nD) (c : Fin τ.nSC) (j : Fin τ.nSub) : 0 + grid1.bound 1 = (barSched TB).expect (barCell d c j) 0 := by
  unfold Rounds.Schedule.expect; rw [barSched_first]
  show 0 + 16 = ∑ x ∈ (Finset.univ : Finset (Fin 16)).image Fin.val, 1
  rw [Finset.sum_const, Finset.card_image_of_injective _ Fin.val_injective]; rfl

/-! ## What a tile owes and holds -/

/-- A tile of SparseCore `c` owes a unit on every tile's cell of that SparseCore. -/
def arrivals (d : Dev nD) (c : Fin τ.nSC) : CellTallies nD τ sig (HIx 1) := ∑ j : Fin (grid1.bound 1), tallyAt (barCell d c (j.castLE hsub1)) (some 0) 1

theorem arrivals_none (d : Dev nD) (c : Fin τ.nSC) (g : GSem nD τ sig) : arrivals d c g none = 0 := by
  unfold arrivals
  rw [Finset.sum_apply, Finsupp.finsetSum_apply]
  exact Finset.sum_eq_zero fun j _ => by rw [tallyAt_apply, if_neg (fun e => nomatch e.2)]

theorem arrivals_pos {d : Dev nD} {c : Fin τ.nSC} {g : GSem nD τ sig} {ι : HIx 1} (h : 0 < arrivals d c g ι) :
    ∃ j : Fin (grid1.bound 1), g = barCell d c (j.castLE hsub1) ∧ ι = some 0 := by
  unfold arrivals at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What tile `(c, i)` is dealt for the barrier: the invariants of its SparseCore's cells, under some names; its own token
    in each tile's round; that each round is open; its place at the start of its own round; the credit of that round. -/
def barKit (d : Dev nD) (c : Fin τ.nSC) (i : Fin τ.nSub) : sProp 𝕄 :=
  iprop((∃ κ : GSem nD τ sig → ℕ, bigSep Finset.univ fun j : Fin (grid1.bound 1) =>
      cellInv EB (barSched TB) (κ (barCell d c (j.castLE hsub1))) (barCell d c (j.castLE hsub1)))
    ∗ (bigSep Finset.univ fun j : Fin (grid1.bound 1) => dutyTok EB (barCell d c (j.castLE hsub1)) 0 i.val)
    ∗ (bigSep Finset.univ fun j : Fin (grid1.bound 1) => reached EB (barCell d c (j.castLE hsub1)) 0)
    ∗ atPos EB (barCell d c i) 0 ∅ 0
    ∗ cred (tallyAt (barCell d c i) (some 0) (grid1.bound 1)))

/-! ## Handing over and receiving the table -/

/-- Subcore 0, holding the whole shared table, hands each tile its read share. -/
theorem hand_table (d : Dev nD) (c : Fin τ.nSC) :
    iprop(shLoc d c ↦{fullShare} TB d)
      ⊢ (bigSep Finset.univ fun j : Fin (grid1.bound 1) => (barSched TB).payload (barCell d c (j.castLE hsub1)) 0 0 : sProp 𝕄) := by
  rw [ShareLeaves.pointsTo_leaves _ _ 4]
  exact BIBase.Entails.rfl

/-- Every other tile hands over nothing. -/
theorem hand_nothing (d : Dev nD) (c : Fin τ.nSC) (i : Fin τ.nSub) (hi : i.val ≠ 0) :
    iprop(emp) ⊢ (bigSep Finset.univ fun j : Fin (grid1.bound 1) => (barSched TB).payload (barCell d c (j.castLE hsub1)) 0 i.val : sProp 𝕄) := by
  rw [show (bigSep Finset.univ fun j : Fin (grid1.bound 1) => (barSched TB).payload (barCell d c (j.castLE hsub1)) 0 i.val)
      = bigSep Finset.univ fun _ : Fin (grid1.bound 1) => (iprop(emp) : sProp 𝕄) from bigSep_congr fun j _ => if_neg hi,
    show (bigSep Finset.univ fun _ : Fin (grid1.bound 1) => (iprop(emp) : sProp 𝕄)) = iprop(emp) from bigSep_emp_const _]

/-- Each tile's round leaves it with its read share of the table. -/
theorem receive_table (d : Dev nD) (c : Fin τ.nSC) (i : Fin τ.nSub) :
    (bigSep ((barSched TB).duties (barCell d c i) 0 \ ∅) fun n => (barSched TB).payload (barCell d c i) 0 n)
      ⊢ (iprop(shLoc d c ↦{readShare i} TB d) : sProp 𝕄) := by
  rw [Finset.sdiff_empty, barSched_first]
  have h0 : (0 : ℕ) ∈ (Finset.univ : Finset (Fin τ.nSub)).image Fin.val :=
    Finset.mem_image.mpr ⟨(⟨0, by decide⟩ : Fin τ.nSub), Finset.mem_univ _, rfl⟩
  exact (bigSep_elim h0).trans (BI.Entails.refl _)

end Sched

end Cert.Proof

end
-- ==== Proof.Last.lean ====
/-
  The last task after the barrier: its 3032 places of the index array, then 23 chunks one after another, then a tail of
  88 rows.
-/
module

public import proofs.«01_k».proof.Proof.Full

@[expose] public section

noncomputable section

namespace Cert.Proof

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (TB : S86x128.Idx → Elt F .f32) (IX : S100000.Idx → Elt F .i32) (d : Dev nD) (L : grid1.Coords)

/-- The programs of the last task: up to the tail's copy to the result, and one trip. -/
abbrev part4 (v3 : BitVec 32) (h4 : k1_cond4 L = 1#1) :=
  k1_part4 (F := F) L tbV (Memref.isWhole_whole _) zV (Memref.isWhole_whole _) oV (Memref.isWhole_whole _) lV (Memref.isWhole_whole _)
    aV (Memref.isWhole_whole _) bV (Memref.isWhole_whole _) shV (Memref.isWhole_whole _) cc1_scratch4 cc1_scratch5 cc1_scratch6 cc1_scratch7
    cc1_scratch8 cc1_scratch9 cc1_scratch10 cc1_scratch11 cc1_scoped0 cc1_scoped1 cc1_scoped2 v3 h4
abbrev trip2 (v3 : BitVec 32) (h4 : k1_cond4 L = 1#1) (t : Fin k1_t2_loop.trips) :=
  k1_t2_body (F := F) L tbV (Memref.isWhole_whole _) zV (Memref.isWhole_whole _) oV (Memref.isWhole_whole _) lV (Memref.isWhole_whole _)
    aV (Memref.isWhole_whole _) bV (Memref.isWhole_whole _) shV (Memref.isWhole_whole _) cc1_scratch4 cc1_scratch5 cc1_scratch6 cc1_scratch7
    cc1_scratch8 cc1_scratch9 cc1_scratch10 cc1_scratch11 cc1_scoped0 cc1_scoped1 cc1_scoped2 v3 h4 t ()

/-- The state at the start of trip `i`: everything idle, the rows below `base L + 128 * i` done. -/
def Inv2 (q : PosShare TreeShare) (O : CellTallies nD τ sig (HIx 1)) (W : Waits sig (HIx 1)) (i : ℕ) : sProp 𝕄 :=
  iprop(OW d L O W ∗ Src TB IX d L q (base L) 3032 ∗ Out TB IX d (base L) (base L + 3032) (base L + 128 * i) ∗ Chk TB IX d L aV 0 0
    ∗ Idle d L cc1_scratch4.sem ∗ Idle d L cc1_scratch6.sem)

variable {TB IX d L}

theorem trips2 : k1_t2_loop.trips = 23 := by decide +kernel

/-- A trip takes the state at its start to the state at the next one's. -/
theorem wp_trip2 (hIX : InTable IX) (q : PosShare TreeShare) (O : CellTallies nD τ sig (HIx 1)) (W : Waits sig (HIx 1))
    (v3 : BitVec 32) (h4 : k1_cond4 L = 1#1) (t : Fin k1_t2_loop.trips) :
    Inv2 TB IX d L q O W t.val
      ⊢ wp frame (wpE (defs₀ (F := F)) 𝒱₀ (tV d L) none) Set.univ (trip2 (F := F) L v3 h4 t) (fun _ => (Inv2 TB IX d L q O W (t.val + 1) : sProp 𝕄)) := by
  have ht : t.val < 23 := trips2 ▸ t.isLt
  unfold trip2 k1_t2_body
  simp only [SparseCore.waitIndirectGather, Prog.lift, Prog.bind_op, Prog.bind_ret, Prog.pure_eq_ret, Prog.bind_assoc]
  unfold Inv2
  iintro ⟨HOW, Hsrc, Ho, Ha, HgA, HsA⟩
  iapply (wp_gather (d := d) (L := L) hIX (b := base L) (len := 3032) (k := 128 * t.val) (by decide) (by omega) aV aV_set (k1_off10 t) (k1_off10_eq t) _ _ _ _ rfl cc1_scratch4.sem) $$ [Hsrc Ha HgA]
  · isplitl [Hsrc]; · iexact Hsrc
    isplitl [Ha]; · iexact Ha
    iexact HgA
  iintro HgA
  iapply (wp_await (d := d) (L := L) rfl) $$ [HgA HOW]
  · isplitl [HgA]; · iexact HgA
    iexact HOW
  iintro ⟨⟨Ha, Hsrc⟩, HgA, HOW⟩
  iapply (wp_store (d := d) (L := L) (lo := base L) (hi := base L + 3032) (o := base L + 128 * t.val) (by omega) (by omega) (by decide) aV (k1_off11 L t) (k1_off11_eq L t) _ _ cc1_scratch6.sem) $$ [Ho Ha HsA]
  · isplitl [Ho]; · iexact Ho
    isplitl [Ha]; · iexact Ha
    iexact HsA
  iintro HsA
  iapply (wp_await (d := d) (L := L) rfl) $$ [HsA HOW]
  · isplitl [HsA]; · iexact HsA
    iexact HOW
  iintro ⟨⟨Ho, Ha⟩, HsA, HOW⟩
  rw [wp_ret]
  imodintro
  isplitl [HOW]; · iexact HOW
  isplitl [Hsrc]; · iexact Hsrc
  isplitl [Ho]
  · rw [show base L + 128 * (t.val + 1) = base L + 128 * t.val + 128 by omega]
    iexact Ho
  isplitl [Ha]; · iapply Chk_any $$ Ha
  isplitl [HgA]; · iexact HgA
  iexact HsA

/-- The last task up to the copy of its tail to the result. -/
theorem wp_part4 (hIX : InTable IX) (q : PosShare TreeShare) (O : CellTallies nD τ sig (HIx 1)) (W : Waits sig (HIx 1))
    (v3 : BitVec 32) (h4 : k1_cond4 L = 1#1) :
    iprop(OW d L O W ∗ Tbl TB d L q ∗ Lst IX d L (base L) 0 ∗ Zs IX d (base L) (base L + 3032) ∗ Out TB IX d (base L) (base L + 3032) (base L)
        ∗ Chk TB IX d L aV 0 0 ∗ Idle d L cc1_scoped2.sem ∗ Idle d L cc1_scratch4.sem ∗ Idle d L cc1_scratch6.sem ∗ Idle d L cc1_scratch10.sem
        ∗ Idle d L cc1_scratch11.sem)
      ⊢ wp frame (wpE (defs₀ (F := F)) 𝒱₀ (tV d L) none) Set.univ (part4 (F := F) L v3 h4)
          (fun _ => (iprop(OW d L O W ∗ Src TB IX d L q (base L) 3032 ∗ Zs IX d (base L) (base L + 3032)
            ∗ Fly d L cc1_scratch11.sem 88 iprop(Out TB IX d (base L) (base L + 3032) (base L + 3032) ∗ Chk TB IX d L aV (base L + 2944) 88)
            ∗ Idle d L cc1_scoped2.sem ∗ Idle d L cc1_scratch4.sem ∗ Idle d L cc1_scratch6.sem ∗ Idle d L cc1_scratch10.sem) : sProp 𝕄)) := by
  unfold part4
  simp only [k1_part4_eq_skeleton]
  unfold k1_part4_skel
  simp only [SparseCore.waitIndirectGather, Prog.lift, Prog.bind_op, Prog.bind_ret, Prog.pure_eq_ret, Prog.bind_assoc]
  iintro ⟨HOW, Ht, Hl, Hz, Ho, Ha, Hc2, HgA, HsA, HgL, HsL⟩
  iapply (wp_listPart (b := base L) (d := d) (L := L) (m := 3032) (by decide) (k1_off9 L) (k1_off9_eq L) _ _ cc1_scoped2.sem) $$ [Hz Hl Hc2]
  · isplitl [Hz]; · iexact Hz
    isplitl [Hl]; · iexact Hl
    iexact Hc2
  iintro Hc2
  iapply (wp_await (d := d) (L := L) rfl) $$ [Hc2 HOW]
  · isplitl [Hc2]; · iexact Hc2
    iexact HOW
  iintro ⟨⟨Hz, Hl⟩, Hc2, HOW⟩
  ihave Hsrc := Src_intro $$ [Ht Hl]
  · isplitl [Ht]; · iexact Ht
    iexact Hl
  sl_for (fun (k : ℕ) (_ : Unit) => (Inv2 TB IX d L q O W k : sProp 𝕄)) $$ [HOW Hsrc Ho Ha HgA HsA]
  · intro k acc
    exact wp_trip2 hIX q O W v3 h4 k
  · unfold Inv2
    isplitl [HOW]; · iexact HOW
    isplitl [Hsrc]; · iexact Hsrc
    isplitl [Ho]; · iexact Ho
    isplitl [Ha]; · iexact Ha
    isplitl [HgA]; · iexact HgA
    iexact HsA
  iintro %_ HI
  unfold Inv2
  have htr : Scf.trips k1_t2_loop.lb k1_t2_loop.ub k1_t2_loop.st = 23 := trips2
  rw [htr]
  icases HI with ⟨HOW, Hsrc, Ho, Ha, HgA, HsA⟩
  iapply (wp_gather (d := d) (L := L) hIX (b := base L) (len := 3032) (k := 2944) (by decide) (by omega) aV aV_set ![2944] rfl _ _ _ _ rfl cc1_scratch10.sem) $$ [Hsrc Ha HgL]
  · isplitl [Hsrc]; · iexact Hsrc
    isplitl [Ha]; · iexact Ha
    iexact HgL
  iintro HgL
  iapply (wp_await (d := d) (L := L) rfl) $$ [HgL HOW]
  · isplitl [HgL]; · iexact HgL
    iexact HOW
  iintro ⟨⟨Ha, Hsrc⟩, HgL, HOW⟩
  iapply (wp_store (d := d) (L := L) (lo := base L) (hi := base L + 3032) (o := base L + 2944) (by omega) (by omega) (by decide) aV (k1_off12 L) (k1_off12_eq L) _ _ cc1_scratch11.sem) $$ [Ho Ha HsL]
  · isplitl [Ho]; · iexact Ho
    isplitl [Ha]; · iexact Ha
    iexact HsL
  iintro HsL
  rw [wp_ret]
  imodintro
  isplitl [HOW]; · iexact HOW
  isplitl [Hsrc]; · iexact Hsrc
  isplitl [Hz]; · iexact Hz
  isplitl [HsL]; · iexact HsL
  isplitl [Hc2]; · iexact Hc2
  isplitl [HgA]; · iexact HgA
  isplitl [HsA]; · iexact HsA
  iexact HgL

end Cert.Proof

end
-- ==== Proof.Tile.lean ====
/-
  A task from end to end: the shared table filled, the barrier, its rows of the result.
-/
module

public import proofs.«01_k».proof.Proof.Fill
public import proofs.«01_k».proof.Proof.Barrier
public import proofs.«01_k».proof.Proof.Last

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rows
variable {TB : S86x128.Idx → Elt F .f32} {IX : S100000.Idx → Elt F .i32} {d : Dev nD}

theorem rowsIn_sub {lo mid hi : ℕ} (h : mid ≤ hi) : rowsIn lo mid ⊆ rowsIn lo hi := fun y hy => by
  rw [mem_rowsIn] at hy ⊢; omega
theorem rowsIn_rest {lo mid hi : ℕ} (h : lo ≤ mid) : rowsIn lo hi \ rowsIn lo mid = rowsIn mid hi := by
  ext y; rw [Finset.mem_sdiff, mem_rowsIn, mem_rowsIn, mem_rowsIn]; omega

/-- Rows of the result, none of them done. -/
theorem Out_start {lo hi : ℕ} {g : S100000x128.Idx → Elt F .f32} : iprop(oLoc d ↦[rowsIn lo hi]{fullShare} g) ⊢ (Out TB IX d lo hi lo : sProp 𝕄) := by
  unfold Out
  iintro H
  iexists g
  isplitr; · ipureintro; intro y h1 h2; omega
  iexact H

/-- Rows of the result, all of them done. -/
theorem Out_done {lo hi : ℕ} : (Out TB IX d lo hi hi : sProp 𝕄) ⊢ iprop(oLoc d ↦[rowsIn lo hi]{fullShare} OUT TB IX) := by
  unfold Out
  iintro ⟨%g, %hg, H⟩
  have he : (iprop(oLoc d ↦[rowsIn lo hi]{fullShare} g) : sProp 𝕄) = iprop(oLoc d ↦[rowsIn lo hi]{fullShare} OUT TB IX) :=
    pointsTo_congr fun y hy => by rw [mem_rowsIn] at hy; exact hg y hy.1 hy.2
  iapply (Entails.of_eq he); iexact H

theorem Out_split {lo mid hi : ℕ} (h₁ : lo ≤ mid) (h₂ : mid ≤ hi) {g : S100000x128.Idx → Elt F .f32} :
    iprop(oLoc d ↦[rowsIn lo hi]{fullShare} g) ⊢ (iprop(Out TB IX d lo mid lo ∗ Out TB IX d mid hi mid) : sProp 𝕄) := by
  iintro H
  ihave H := (pointsTo_split_subset (ℓ := oLoc d) (q := fullShare) (f := g) (rowsIn_sub (lo := lo) h₂)).1 $$ H
  rw [rowsIn_rest h₁]
  icases H with ⟨Ha, Hb⟩
  isplitl [Ha]; · iapply Out_start; iexact Ha
  iapply Out_start; iexact Hb

theorem Out_join {lo mid hi : ℕ} (h₁ : lo ≤ mid) (h₂ : mid ≤ hi) :
    (iprop(Out TB IX d lo mid mid ∗ Out TB IX d mid hi hi) : sProp 𝕄) ⊢ iprop(oLoc d ↦[rowsIn lo hi]{fullShare} OUT TB IX) := by
  iintro ⟨Ha, Hb⟩
  ihave Ha := Out_done $$ Ha
  ihave Hb := Out_done $$ Hb
  iapply (pointsTo_split_subset (ℓ := oLoc d) (q := fullShare) (f := OUT TB IX) (rowsIn_sub (lo := lo) h₂)).2
  rw [rowsIn_rest h₁]
  isplitl [Ha]; · iexact Ha
  iexact Hb

end Rows

/-! ## Which task is the last -/

theorem cond4_not (L : grid1.Coords) : k1_cond2 L = 1#1 → ¬ k1_cond4 L = 1#1 := by
  have h : ∀ (c : Fin 2) (j : Fin 16), k1_cond2 (fun | 0 => c | 1 => j) = 1#1 → ¬ k1_cond4 (fun | 0 => c | 1 => j) = 1#1 := by decide +kernel
  have e : L = (fun | 0 => L 0 | 1 => L 1) := by funext a; match a with | 0 => rfl | 1 => rfl
  rw [e]; exact h (L 0) (L 1)
theorem cond4_of (L : grid1.Coords) : ¬ k1_cond2 L = 1#1 → k1_cond4 L = 1#1 ∧ base L + 3032 = 100000 := by
  have h : ∀ (c : Fin 2) (j : Fin 16), ¬ k1_cond2 (fun | 0 => c | 1 => j) = 1#1 →
      k1_cond4 (fun | 0 => c | 1 => j) = 1#1 ∧ base (fun | 0 => c | 1 => j) + 3032 = 100000 := by decide +kernel
  have e : L = (fun | 0 => L 0 | 1 => L 1) := by funext a; match a with | 0 => rfl | 1 => rfl
  rw [e]; exact h (L 0) (L 1)

end Cert.Proof

end
-- ==== Proof.Rest.lean ====
/-
  A task after the barrier: its places of the index array copied in, its rows of the result gathered and stored.
-/
module

public import proofs.«01_k».proof.Proof.Tile

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (TB : S86x128.Idx → Elt F .f32) (IX : S100000.Idx → Elt F .i32) (d : Dev nD) (L : grid1.Coords)

/-- The buffers and semaphores a task works with after the barrier, at rest. -/
def Idles : sProp 𝕄 :=
  iprop((Lst IX d L (base L) 0 ∗ Chk TB IX d L aV 0 0 ∗ Chk TB IX d L bV 0 0) ∗ Idle d L cc1_scoped1.sem ∗ Idle d L cc1_scoped2.sem ∗ Idle d L cc1_scratch4.sem
    ∗ Idle d L cc1_scratch5.sem ∗ Idle d L cc1_scratch6.sem ∗ Idle d L cc1_scratch7.sem ∗ Idle d L cc1_scratch8.sem
    ∗ Idle d L cc1_scratch9.sem ∗ Idle d L cc1_scratch10.sem ∗ Idle d L cc1_scratch11.sem)

variable {TB IX d L}

/-- The list buffer and the share of the table, whatever the list holds. -/
theorem Src_rest {q : PosShare TreeShare} {len : ℕ} :
    (Src TB IX d L q (base L) len : sProp 𝕄) ⊢ iprop(Tbl TB d L q ∗ Lst IX d L (base L) 0) := by
  unfold Src Tbl Lst
  iintro ⟨Ht, %fs, %_, Hl⟩
  isplitl [Ht]; · iexact Ht
  iexists fs
  isplitr; · ipureintro; exact fun p hp => absurd hp (Nat.not_lt_zero _)
  iexact Hl

/-- A task that is not the last: all its 3128 rows. -/
theorem wp_full {α : Type} {Q : α → sProp 𝕄} (hIX : InTable IX) (q : PosShare TreeShare) (O : CellTallies nD τ sig (HIx 1)) (W : Waits sig (HIx 1))
    (v3 : BitVec 32) (h2 : k1_cond2 L = 1#1) {g : S100000x128.Idx → Elt F .f32} {h₁ h₂ h₃ h₄ h₅ h₆ h₇} {kk : PUnit → Prog (TpuEff nD τ sig (Elt F) Λ₀ (tV d L).2) α} :
    iprop(OW d L O W ∗ Tbl TB d L q ∗ Zs IX d (base L) (base L + 3128) ∗ (oLoc d ↦[rowsIn (base L) (base L + 3128)]{fullShare} g) ∗ Idles TB IX d L)
      ⊢ iprop((iprop(OW d L O W ∗ Tbl TB d L q ∗ Zs IX d (base L) (base L + 3128)
              ∗ (oLoc d ↦[rowsIn (base L) (base L + 3128)]{fullShare} OUT TB IX) ∗ Idles TB IX d L)
            -∗ wp frame (wpE (defs₀ (F := F)) 𝒱₀ (tV d L) none) Set.univ (kk ⟨⟩) Q)
        -∗ wp frame (wpE (defs₀ (F := F)) 𝒱₀ (tV d L) none) Set.univ
          (part2 (F := F) L v3 h2 >>= fun _ => part3 (F := F) L v3 h2 >>= fun _ =>
            .op (.enqueueDma (p := (tV d L).2) (aV.slice (Rect.unit (s := S128x128) ![0, 0] S56x128.size inb_S128x128_S56x128_0_0) (fun _ => rfl))
              (.here (oV.slice (Rect.unit (s := S100000x128) (k1_off8 L) S56x128.size (k1_off8_inb L h2)) (fun _ => rfl))) (.dma cc1_scratch9.sem) h₁ h₂ h₃)
            fun _ => .op (.waitDma2 (p := (tV d L).2) cc1_scratch7.sem
              (bV.slice (Rect.unit (s := S128x128) ![0, 0] S128x128.size inb_S128x128_S128x128_0_0) (fun _ => rfl))
              (oV.slice (Rect.unit (s := S100000x128) (k1_off7 L 2944#32) S128x128.size (k1_off7_inb L h2 2)) (fun _ => rfl)) h₄ h₅)
            fun _ => .op (.waitDma2 (p := (tV d L).2) cc1_scratch9.sem
              (aV.slice (Rect.unit (s := S128x128) ![0, 0] S56x128.size inb_S128x128_S56x128_0_0) (fun _ => rfl))
              (oV.slice (Rect.unit (s := S100000x128) (k1_off8 L) S56x128.size (k1_off8_inb L h2)) (fun _ => rfl)) h₆ h₇) kk) Q) := by
  unfold Idles
  iintro ⟨HOW, Ht, Hz, Ho, ⟨Hl, Ha, Hb⟩, H1, H2, H4, H5, H6, H7, H8, H9, H10, H11⟩ Hk
  ihave Ho := (Out_split (TB := TB) (IX := IX) (lo := base L) (mid := base L + 3072) (hi := base L + 3128) (by omega) (by omega)) $$ Ho
  icases Ho with ⟨Ho, Ho'⟩
  rw [wp_bind]
  ihave Hwp := (wp_part2 hIX q O W v3 h2) $$ [HOW Ht Hl Hz Ho Ha Hb H1 H4 H5 H6 H7]
  · isplitl [HOW]; · iexact HOW
    isplitl [Ht]; · iexact Ht
    isplitl [Hl]; · iexact Hl
    isplitl [Hz]; · iexact Hz
    isplitl [Ho]; · iexact Ho
    isplitl [Ha]; · iexact Ha
    isplitl [Hb]; · iexact Hb
    isplitl [H1]; · iexact H1
    isplitl [H4]; · iexact H4
    isplitl [H5]; · iexact H5
    isplitl [H6]; · iexact H6
    iexact H7
  iapply (wp_wand _ _ _) $$ Hwp
  iintro %_ ⟨HOW, Hz, Ho, Ha, HgB, H1, H4, H6, H7⟩
  rw [wp_bind]
  ihave Hwp := (wp_part3 hIX q O W v3 h2) $$ [HOW Ho Ha HgB H6 H7 H8]
  · isplitl [HOW]; · iexact HOW
    isplitl [Ho]; · iexact Ho
    isplitl [Ha]; · iexact Ha
    isplitl [HgB]; · iexact HgB
    isplitl [H6]; · iexact H6
    isplitl [H7]; · iexact H7
    iexact H8
  iapply (wp_wand _ _ _) $$ Hwp
  iintro %_ ⟨HOW, Hsrc, Ha, HsB, H5, H6, H8⟩
  iapply (wp_store (d := d) (L := L) (lo := base L + 3072) (hi := base L + 3128) (o := base L + 3072) (by omega) (by omega) (by decide) aV (k1_off8 L) (k1_off8_eq L) _ _ cc1_scratch9.sem) $$ [Ho' Ha H9]
  · isplitl [Ho']; · iexact Ho'
    isplitl [Ha]; · iexact Ha
    iexact H9
  iintro HsT
  iapply (wp_await (d := d) (L := L) rfl) $$ [HsB HOW]
  · isplitl [HsB]; · iexact HsB
    iexact HOW
  iintro ⟨⟨Ho, Hb⟩, H7, HOW⟩
  iapply (wp_await (d := d) (L := L) rfl) $$ [HsT HOW]
  · isplitl [HsT]; · iexact HsT
    iexact HOW
  iintro ⟨⟨Ho', Ha⟩, H9, HOW⟩
  iapply Hk
  ihave Hsrc := Src_rest $$ Hsrc
  icases Hsrc with ⟨Ht, Hl⟩
  isplitl [HOW]; · iexact HOW
  isplitl [Ht]; · iexact Ht
  isplitl [Hz]; · iexact Hz
  isplitl [Ho Ho']
  · iapply (Out_join (lo := base L) (mid := base L + 3072) (hi := base L + 3128) (by omega) (by omega))
    isplitl [Ho]; · iexact Ho
    iexact Ho'
  isplitl [Hl Ha Hb]
  · isplitl [Hl]; · iexact Hl
    isplitl [Ha]; · iapply Chk_any; iexact Ha
    iapply Chk_any; iexact Hb
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The last task: its 3032 rows, up to the result's end. -/
theorem wp_last {α : Type} {Q : α → sProp 𝕄} (hIX : InTable IX) (q : PosShare TreeShare) (O : CellTallies nD τ sig (HIx 1)) (W : Waits sig (HIx 1))
    (v3 : BitVec 32) (h4 : k1_cond4 L = 1#1) (hb : base L + 3032 = 100000) {g : S100000x128.Idx → Elt F .f32} {h₁ h₂}
    {kk : PUnit → Prog (TpuEff nD τ sig (Elt F) Λ₀ (tV d L).2) α} :
    iprop(OW d L O W ∗ Tbl TB d L q ∗ Zs IX d (base L) (base L + 3128) ∗ (oLoc d ↦[rowsIn (base L) (base L + 3128)]{fullShare} g) ∗ Idles TB IX d L)
      ⊢ iprop((iprop(OW d L O W ∗ Tbl TB d L q ∗ Zs IX d (base L) (base L + 3128)
              ∗ (oLoc d ↦[rowsIn (base L) (base L + 3128)]{fullShare} OUT TB IX) ∗ Idles TB IX d L)
            -∗ wp frame (wpE (defs₀ (F := F)) 𝒱₀ (tV d L) none) Set.univ (kk ⟨⟩) Q)
        -∗ wp frame (wpE (defs₀ (F := F)) 𝒱₀ (tV d L) none) Set.univ
          (part4 (F := F) L v3 h4 >>= fun _ => .op (.waitDma2 (p := (tV d L).2) cc1_scratch11.sem
              (aV.slice (Rect.unit (s := S128x128) ![0, 0] S88x128.size inb_S128x128_S88x128_0_0) (fun _ => rfl))
              (oV.slice (Rect.unit (s := S100000x128) (k1_off12 L) S88x128.size (k1_off12_inb L h4)) (fun _ => rfl)) h₁ h₂) kk) Q) := by
  have hrows : rowsIn (base L) (base L + 3128) = rowsIn (base L) (base L + 3032) := by
    ext y; rw [mem_rowsIn, mem_rowsIn]; have : (y 0).val < 100000 := (y 0).isLt; omega
  have hidx : idxIn (base L) (base L + 3128) = idxIn (base L) (base L + 3032) := by
    ext y; rw [mem_idxIn, mem_idxIn]; have : (y 0).val < 100000 := (y 0).isLt; omega
  have hZ : (Zs IX d (base L) (base L + 3128) : sProp 𝕄) = Zs IX d (base L) (base L + 3032) := by unfold Zs; rw [hidx]
  rw [hrows, hZ]
  unfold Idles
  iintro ⟨HOW, Ht, Hz, Ho, ⟨Hl, Ha, Hb⟩, H1, H2, H4, H5, H6, H7, H8, H9, H10, H11⟩ Hk
  ihave Ho := (Out_start (TB := TB) (IX := IX)) $$ Ho
  rw [wp_bind]
  ihave Hwp := (wp_part4 hIX q O W v3 h4) $$ [HOW Ht Hl Hz Ho Ha H2 H4 H6 H10 H11]
  · isplitl [HOW]; · iexact HOW
    isplitl [Ht]; · iexact Ht
    isplitl [Hl]; · iexact Hl
    isplitl [Hz]; · iexact Hz
    isplitl [Ho]; · iexact Ho
    isplitl [Ha]; · iexact Ha
    isplitl [H2]; · iexact H2
    isplitl [H4]; · iexact H4
    isplitl [H6]; · iexact H6
    isplitl [H10]; · iexact H10
    iexact H11
  iapply (wp_wand _ _ _) $$ Hwp
  iintro %_ ⟨HOW, Hsrc, Hz, HsL, H2, H4, H6, H10⟩
  iapply (wp_await (d := d) (L := L) rfl) $$ [HsL HOW]
  · isplitl [HsL]; · iexact HsL
    iexact HOW
  iintro ⟨⟨Ho, Ha⟩, H11, HOW⟩
  iapply Hk
  ihave Hsrc := Src_rest $$ Hsrc
  icases Hsrc with ⟨Ht, Hl⟩
  isplitl [HOW]; · iexact HOW
  isplitl [Ht]; · iexact Ht
  isplitl [Hz]; · iexact Hz
  isplitl [Ho]; · iapply Out_done; iexact Ho
  isplitl [Hl Ha Hb]
  · isplitl [Hl]; · iexact Hl
    isplitl [Ha]; · iapply Chk_any; iexact Ha
    iexact Hb
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Proof

end
-- ==== Proof.Task.lean ====
/-
  A task from end to end: the shared table filled, the barrier, its rows of the result.
-/
module

public import proofs.«01_k».proof.Proof.Rest

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (TB : Dev nD → S86x128.Idx → Elt F .f32) (IX : S100000.Idx → Elt F .i32) (d : Dev nD) (L : grid1.Coords)

/-- What a task is handed: its places of the index array, its rows of the result and, for subcore 0, what it fills the
    shared table from and into. -/
def TaskIn (g : S100000x128.Idx → Elt F .f32) : sProp 𝕄 :=
  iprop(Zs IX d (base L) (base L + 3128) ∗ (oLoc d ↦[rowsIn (base L) (base L + 3128)]{fullShare} g) ∗ Fill (TB d) d (L 0) (L 1).val (cV L))

/-- What it brings back: its places, its rows at the result's value, the table in HBM for subcore 0, and its read share of
    the shared table. -/
def TaskOut : sProp 𝕄 :=
  iprop(Zs IX d (base L) (base L + 3128) ∗ (oLoc d ↦[rowsIn (base L) (base L + 3128)]{fullShare} OUT (TB d) IX) ∗ Kept (TB d) d (L 0) (L 1).val
    ∗ (shLoc d (cV L) ↦{readShare (jV L)} TB d))

/-- The kernel at its buffers and semaphores. -/
abbrev task : Prog (TpuEff nD τ sig (Elt F) Λ₀ (tV d L).2) PUnit :=
  cc1_k L tbV (Memref.isWhole_whole _) zV (Memref.isWhole_whole _) oV (Memref.isWhole_whole _) lV (Memref.isWhole_whole _) aV (Memref.isWhole_whole _)
    bV (Memref.isWhole_whole _) shV (Memref.isWhole_whole _) cc1_scratch4 cc1_scratch5 cc1_scratch6 cc1_scratch7 cc1_scratch8 cc1_scratch9 cc1_scratch10
    cc1_scratch11 cc1_scoped0 cc1_scoped1 cc1_scoped2

/-- The tile hands over what it filled. -/
theorem hand_over : (Filled (TB d) d (L 1).val (cV L) : sProp 𝕄)
    ⊢ bigSep Finset.univ fun j : Fin (grid1.bound 1) => (barSched TB).payload (barCell d (cV L) (j.castLE hsub1)) 0 (jV L).val := by
  unfold Filled
  by_cases h : (L 1).val = 0
  · rw [if_pos h, show (jV L).val = 0 from h]
    exact hand_table TB d (cV L)
  · rw [if_neg h]
    exact hand_nothing TB d (cV L) (jV L) h

/-- The three buffers, whatever they hold, and the semaphores. -/
abbrev Bufs : sProp 𝕄 :=
  iprop((∃ f, (tV d L).loc cc1_scratch0 ↦{fullShare} f) ∗ (∃ f, (tV d L).loc cc1_scratch1 ↦{fullShare} f) ∗ (∃ f, (tV d L).loc cc1_scratch2 ↦{fullShare} f))
abbrev Sems : sProp 𝕄 :=
  iprop(Idle d L cc1_scoped1.sem ∗ Idle d L cc1_scoped2.sem ∗ Idle d L cc1_scratch4.sem
    ∗ Idle d L cc1_scratch5.sem ∗ Idle d L cc1_scratch6.sem ∗ Idle d L cc1_scratch7.sem ∗ Idle d L cc1_scratch8.sem
    ∗ Idle d L cc1_scratch9.sem ∗ Idle d L cc1_scratch10.sem ∗ Idle d L cc1_scratch11.sem)

variable {d L} in
theorem idles_intro {TB : S86x128.Idx → Elt F .f32} {IX : S100000.Idx → Elt F .i32} :
    iprop(Bufs (F := F) d L ∗ Sems d L) ⊢ (Idles TB IX d L : sProp 𝕄) := by
  unfold Idles Lst Chk
  iintro ⟨⟨⟨%fl, Hl⟩, ⟨%fa, Ha⟩, ⟨%fb, Hb⟩⟩, Hs⟩
  isplitl [Hl Ha Hb]
  · isplitl [Hl]
    · iexists fl
      isplitr; · ipureintro; exact fun p hp => absurd hp (Nat.not_lt_zero _)
      iexact Hl
    isplitl [Ha]
    · iexists fa
      isplitr; · ipureintro; exact fun p hp => absurd hp (Nat.not_lt_zero _)
      iexact Ha
    iexists fb
    isplitr; · ipureintro; exact fun p hp => absurd hp (Nat.not_lt_zero _)
    iexact Hb
  iexact Hs

/-- What a task gives back of its own at its end. -/
theorem idles_elim (O : CellTallies nD τ sig (HIx 1)) (W : Waits sig (HIx 1)) {Xb Xs : sProp 𝕄} :
    iprop(Idles (TB d) IX d L ∗ Idle d L cc1_scoped0.sem ∗ Xb ∗ Xs ∗ OW d L O W)
      ⊢ iprop((Bufs (F := F) d L ∗ Xb) ∗ ((Idle d L cc1_scoped0.sem ∗ Sems d L) ∗ Xs)
        ∗ ∃ W', ⌜∀ p ∈ W', p ∈ W ∨ p.2 = none ∨ p.2 = some (0 : Fin 1)⌝ ∗ owes (tV d L) O W') := by
  unfold Idles Lst Chk OW
  iintro ⟨⟨⟨⟨%fl, -, Hl⟩, ⟨%fa, -, Ha⟩, ⟨%fb, -, Hb⟩⟩, Hs⟩, H0, HXb, HXs, -, HO⟩
  isplitl [Hl Ha Hb HXb]
  · isplitl [Hl Ha Hb]; swap; · iexact HXb
    isplitl [Hl]; · iexists fl; iexact Hl
    isplitl [Ha]; · iexists fa; iexact Ha
    iexists fb; iexact Hb
  isplitl [H0 Hs HXs]
  · isplitl [H0 Hs]; swap; · iexact HXs
    isplitl [H0]; · iexact H0
    iexact Hs
  iexact HO

set_option maxHeartbeats 1000000 in
/-- The task on vector subcore `(L 0, L 1)` of device `d`. -/
theorem wp_task (hF : (K (F := F)).Facts) (hIX : InTable IX) (O : CellTallies nD τ sig (HIx 1)) (W : Waits sig (HIx 1)) (hO : ∀ g, O g none = 0)
    (hOlev : ∀ g ι, 0 < O g ι → 8 * (0 : Fin 1).val + 6 ≤ (K (F := F)).lev g ι) (g : S100000x128.Idx → Elt F .f32) :
    iprop(levAts (K (F := F)).L (K (F := F)).lev ∗ barKit TB d (cV L) (jV L) ∗ TaskIn TB IX d L g
        ∗ scopedBufs (tV d L) ∗ scopedSems0 (tV d L) ∗ owes (tV d L) (O + arrivals d (cV L)) W)
      ⊢ wp frame (wpE (defs₀ (F := F)) 𝒱₀ (tV d L) none) Set.univ (task (F := F) d L)
          fun _ => iprop((TaskOut TB IX d L ∗ semVal (barCell d (cV L) (jV L)) 0)
            ∗ scopedBufs (tV d L) ∗ scopedSems0 (tV d L)
            ∗ ∃ W', ⌜∀ p ∈ W', p ∈ W ∨ p.2 = none ∨ p.2 = some (0 : Fin 1)⌝ ∗ owes (tV d L) O W') := by
  have hO' : ∀ g, (O + arrivals d (cV L)) g none = 0 := fun g => by rw [Pi.add_apply, Finsupp.add_apply, hO g, arrivals_none]
  unfold task
  simp only [cc1_k_eq_skeleton]; unfold cc1_k_skel
  rw [(K (F := F)).scopedBufs_V hF d (cV L) (jV L), SparseCore.Cfg.scopedSems0_V (Val := Elt F) d (cV L) (jV L), ownSems0_tile, ownBufs_tile]
  unfold barKit TaskIn
  simp only [Prog.lift, Prog.bind_op, Prog.bind_ret, Prog.pure_eq_ret, Prog.bind_assoc]
  iintro ⟨#Hlv, ⟨⟨%κ, #Hinv⟩, Htoks, #Hrch, Hat, Hcred⟩, ⟨Hz, Ho, Hfill⟩, ⟨⟨⟨%fl, Hl⟩, ⟨%fa, Ha⟩, ⟨%fb, Hb⟩⟩, Hbufs⟩, ⟨⟨H0, H1, H2, H4, H5, H6, H7, H8, H9, H10, H11⟩, Hsems⟩, HO⟩
  ihave Hmw1 := (show levAts (K (F := F)).L (K (F := F)).lev ⊢ Transfers.MayWaits (tV d L) (none : HIx 1) (O + arrivals d (cV L)) from
    (K (F := F)).mayWaits_none (thr := tV d L) hO') $$ Hlv
  ihave Hmw2 := (show levAts (K (F := F)).L (K (F := F)).lev ⊢ Transfers.MayWaits (tV d L) (none : HIx 1) O from
    (K (F := F)).mayWaits_none (thr := tV d L) hO) $$ Hlv
  -- the shared table filled
  iapply (wp_fill (TB := TB d) (d := d) (L := L) (O := O + arrivals d (cV L)) (W := W) (fill_cond (L 1))) $$ [HO Hmw1 H0 Hfill]
  · isplitl [HO Hmw1]
    · unfold OW
      isplitl [Hmw1]; · iexact Hmw1
      iexists W
      isplitr; · ipureintro; exact fun p hp => .inl hp
      iexact HO
    isplitl [H0]; · iexact H0
    iexact Hfill
  iintro ⟨HOW, H0, Hkept, Hfilled⟩
  -- the barrier: the table handed over, a read share of it received
  ihave Hpays := (hand_over TB d L) $$ Hfilled
  unfold OW
  icases HOW with ⟨-, %W1, %hW1, HO⟩
  iapply (SparseCore.wp_subcoreBarrier 𝒱₀ none EB (barSched TB) d (sc := cV L) (i := jV L) sc_bar0 (grid1.bound 1) hsub1 (L 1) rfl κ (fun _ => 0) (jV L).val
      (fun j => barSched_mem TB d _ _ _) (fun _ => rfl) (barSched_expect TB d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := tV d L) 3 (fun p hp => by
        rw [Finset.mem_singleton] at hp; subst hp
        show (K (F := F)).lev (barCell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (barSched TB) (g := barCell d (cV L) (jV L)) (Set.mem_univ (κ _)) (fun h => h) (barSched_later TB _)) $$ [Hat] with Hbar
  · isplitr
    · iapply (SparseCore.ent (bigSep_elim (Φ := fun j : Fin (grid1.bound 1) =>
        (cellInv EB (barSched TB) (κ (barCell d (cV L) (j.castLE hsub1))) (barCell d (cV L) (j.castLE hsub1)) : sProp 𝕄)) (Finset.mem_univ (L 1)))); iexact Hinv
    · iexact Hat
  ihave Hshr := (receive_table TB d (cV L) (jV L)) $$ Hgot
  ihave HOW : OW d L O W $$ [HO Hmw2]
  · unfold OW
    isplitl [Hmw2]; · iexact Hmw2
    iexists _
    isplitr; swap; · iexact HO
    ipureintro
    intro p hp
    rcases Finset.mem_insert.mp hp with hp | hp
    · exact .inr (.inr (hp ▸ rfl))
    · exact hW1 p hp
  ihave HI : Idles (TB d) IX d L $$ [Hl Ha Hb H1 H2 H4 H5 H6 H7 H8 H9 H10 H11]
  · iapply (idles_intro (TB := TB d) (IX := IX))
    isplitl [Hl Ha Hb]
    · isplitl [Hl]; · iexists fl; iexact Hl
      isplitl [Ha]; · iexists fa; iexact Ha
      iexists fb; iexact Hb
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  by_cases h2 : k1_cond2 L = 1#1
  · rw [dif_pos h2]
    iapply (wp_full (TB := TB d) (d := d) (L := L) hIX (readShare (jV L)) O W _ h2 (g := g)) $$ [HOW Hshr Hz Ho HI]
    · isplitl [HOW]; · iexact HOW
      isplitl [Hshr]; · unfold Tbl; iexact Hshr
      isplitl [Hz]; · iexact Hz
      isplitl [Ho]; · iexact Ho
      iexact HI
    iintro ⟨HOW, Hshr, Hz, Ho, HI⟩
    rw [dif_neg (cond4_not L h2)]
    sl_step
    isplitl [Hshr Hz Ho Hkept Hbar]
    · isplitr [Hbar]; swap; · iexact Hbar
      unfold TaskOut Tbl
      isplitl [Hz]; · iexact Hz
      isplitl [Ho]; · iexact Ho
      isplitl [Hkept]; · iexact Hkept
      iexact Hshr
    iapply (idles_elim TB IX d L O W)
    isplitl [HI]; · iexact HI
    isplitl [H0]; · iexact H0
    isplitl [Hbufs]; · iexact Hbufs
    isplitl [Hsems]; · iexact Hsems
    iexact HOW
  · rw [dif_neg h2]
    obtain ⟨h4, hb⟩ := cond4_of L h2
    rw [dif_pos h4]
    iapply (wp_last (TB := TB d) (d := d) (L := L) hIX (readShare (jV L)) O W _ h4 hb (g := g)) $$ [HOW Hshr Hz Ho HI]
    · isplitl [HOW]; · iexact HOW
      isplitl [Hshr]; · unfold Tbl; iexact Hshr
      isplitl [Hz]; · iexact Hz
      isplitl [Ho]; · iexact Ho
      iexact HI
    iintro ⟨HOW, Hshr, Hz, Ho, HI⟩
    sl_step
    isplitl [Hshr Hz Ho Hkept Hbar]
    · isplitr [Hbar]; swap; · iexact Hbar
      unfold TaskOut Tbl
      isplitl [Hz]; · iexact Hz
      isplitl [Ho]; · iexact Ho
      isplitl [Hkept]; · iexact Hkept
      iexact Hshr
    iapply (idles_elim TB IX d L O W)
    isplitl [HI]; · iexact HI
    isplitl [H0]; · iexact H0
    isplitl [Hbufs]; · iexact Hbufs
    isplitl [Hsems]; · iexact Hsems
    iexact HOW

end Cert.Proof

end
-- ==== Proof.Hand.lean ====
/-
  What the SparseCore call's handshakes carry, and how a SparseCore's share of the operands splits into its tasks'.
-/
module

public import proofs.«01_k».proof.Proof.Task

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows by SparseCore and by task -/

/-- The coordinates of vector subcore `i` of SparseCore `c`. -/
def coords (c : Fin 2) (i : Fin 16) : grid1.Coords :=
  fun | 0 => c | 1 => i | ⟨_ + 2, h⟩ => absurd h (Nat.not_lt.2 (Nat.le_add_left _ _))

theorem base_coords (c : Fin 2) (i : Fin 16) : base (coords c i) = 6256 * i.val + 3128 * c.val := rfl

/-- The rows of the result, and the places of the index array, that the tasks of SparseCore `c` take. -/
def coreRows (c : Fin 2) : Finset S100000x128.Idx := Finset.univ.filter fun y => (y 0).val / 3128 % 2 = c.val
def coreIdx (c : Fin 2) : Finset S100000.Idx := Finset.univ.filter fun y => (y 0).val / 3128 % 2 = c.val

abbrev taskRows (c : Fin 2) (i : Fin 16) : Finset S100000x128.Idx := rowsIn (base (coords c i)) (base (coords c i) + 3128)
abbrev taskIdx (c : Fin 2) (i : Fin 16) : Finset S100000.Idx := idxIn (base (coords c i)) (base (coords c i) + 3128)

theorem task_of (c : Fin 2) {n : ℕ} (hn : n < 100000) :
    (∃ i : Fin 16, base (coords c i) ≤ n ∧ n < base (coords c i) + 3128) ↔ n / 3128 % 2 = c.val := by
  constructor
  · rintro ⟨i, h1, h2⟩; rw [base_coords] at h1 h2; have := c.isLt; omega
  · intro h
    refine ⟨⟨n / 6256, by omega⟩, ?_⟩
    rw [base_coords]; have := c.isLt; dsimp only; omega

theorem task_unique (c : Fin 2) {i j : Fin 16} {n : ℕ} (h1 : base (coords c i) ≤ n ∧ n < base (coords c i) + 3128)
    (h2 : base (coords c j) ≤ n ∧ n < base (coords c j) + 3128) : i = j := by
  rw [base_coords] at h1 h2; apply Fin.ext; omega

theorem rows_tasks (c : Fin 2) : Finset.univ.biUnion (taskRows c) = coreRows c := by
  ext y
  rw [Finset.mem_biUnion, coreRows, Finset.mem_filter]
  simp only [Finset.mem_univ, true_and, mem_rowsIn]
  exact task_of c (y 0).isLt
theorem idx_tasks (c : Fin 2) : Finset.univ.biUnion (taskIdx c) = coreIdx c := by
  ext y
  rw [Finset.mem_biUnion, coreIdx, Finset.mem_filter]
  simp only [Finset.mem_univ, true_and, mem_idxIn]
  exact task_of c (y 0).isLt
theorem rows_tasks_disjoint (c : Fin 2) : ∀ i ∈ (Finset.univ : Finset (Fin 16)), ∀ j ∈ (Finset.univ : Finset (Fin 16)), i ≠ j → Disjoint (taskRows c i) (taskRows c j) :=
  fun i _ j _ h => Finset.disjoint_left.mpr fun y h1 h2 => h (task_unique c (mem_rowsIn.mp h1) (mem_rowsIn.mp h2))
theorem idx_tasks_disjoint (c : Fin 2) : ∀ i ∈ (Finset.univ : Finset (Fin 16)), ∀ j ∈ (Finset.univ : Finset (Fin 16)), i ≠ j → Disjoint (taskIdx c i) (taskIdx c j) :=
  fun i _ j _ h => Finset.disjoint_left.mpr fun y h1 h2 => h (task_unique c (mem_idxIn.mp h1) (mem_idxIn.mp h2))

theorem rows_cores : Finset.univ.biUnion coreRows = Finset.univ := by
  ext y
  simp only [Finset.mem_biUnion, coreRows, Finset.mem_filter, Finset.mem_univ, true_and, iff_true]
  exact ⟨⟨(y 0).val / 3128 % 2, Nat.mod_lt _ (by decide)⟩, rfl⟩
theorem idx_cores : Finset.univ.biUnion coreIdx = Finset.univ := by
  ext y
  simp only [Finset.mem_biUnion, coreIdx, Finset.mem_filter, Finset.mem_univ, true_and, iff_true]
  exact ⟨⟨(y 0).val / 3128 % 2, Nat.mod_lt _ (by decide)⟩, rfl⟩
theorem rows_cores_disjoint : ∀ i ∈ (Finset.univ : Finset (Fin 2)), ∀ j ∈ (Finset.univ : Finset (Fin 2)), i ≠ j → Disjoint (coreRows i) (coreRows j) :=
  fun i _ j _ h => Finset.disjoint_left.mpr fun y h1 h2 => h (Fin.ext ((Finset.mem_filter.mp h1).2.symm.trans (Finset.mem_filter.mp h2).2))
theorem idx_cores_disjoint : ∀ i ∈ (Finset.univ : Finset (Fin 2)), ∀ j ∈ (Finset.univ : Finset (Fin 2)), i ≠ j → Disjoint (coreIdx i) (coreIdx j) :=
  fun i _ j _ h => Finset.disjoint_left.mpr fun y h1 h2 => h (Fin.ext ((Finset.mem_filter.mp h1).2.symm.trans (Finset.mem_filter.mp h2).2))

/-! ## What the handshakes carry -/

variable (TB : Dev nD → S86x128.Idx → Elt F .f32) (IX : Dev nD → S100000.Idx → Elt F .i32) (G : Dev nD → S100000x128.Idx → Elt F .f32)

/-- A SparseCore's share of the call's operands, its rows of the result at `g`. -/
def CoreHas (d : Dev nD) (c : Fin 2) (g : S100000x128.Idx → Elt F .f32) : sProp 𝕄 :=
  iprop((zLoc d ↦[coreIdx c]{fullShare} IX d) ∗ (oLoc d ↦[coreRows c]{fullShare} g) ∗ (tLoc d ↦{tblShare c} TB d))

abbrev coreV (c : Fin 2) : Fin τ.nSC := c.castLE (by decide)
abbrev subV (i : Fin 16) : Fin τ.nSub := i.castLE (by decide)

/-- The barrier semaphores of the tasks of SparseCore `c`, at zero. -/
abbrev barsAt (d : Dev nD) (c : Fin 2) : sProp 𝕄 := bigSep Finset.univ fun i : Fin 16 => semVal (barCell d (coreV c) (subV i)) 0

set_option backward.proofsInPublic true in
/-- The call hands each SparseCore its share of the operands, and each task its own; a task brings back its rows at the
    result's value, a read share of the shared table and its barrier semaphore, at zero. -/
def P : (K (F := F)).Pay (nD := nD) (Val := Elt F) (Name := ℕ) (U := UU) where
  st := fun q d c => match q with | 0 => CoreHas TB IX d c (G d)
  dn := fun q d c => match q with | 0 => iprop(CoreHas TB IX d c (OUT (TB d) (IX d)) ∗ barsAt d c)
  go := fun q d c i => match q with | 0 => TaskIn TB (IX d) d (coords c i) (G d)
  td := fun q d c i => match q with | 0 => iprop(TaskOut TB (IX d) d (coords c i) ∗ semVal (barCell d (coreV c) (subV i)) 0)
  x := fun _ thr => match thr with
    | (d, .scVector c i) => barKit TB d c i
    | _ => iprop(emp)
  ox := fun _ thr => match thr with
    | (d, .scVector c _) => arrivals d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := arrivals_pos h
      rw [(K (F := F)).lev_V_reg d c (j.castLE hsub1) (show (sc_bar0 : Sem sig) ≠ (K (F := F)).go from bar_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance CoreHas_storable (d : Dev nD) (c : Fin 2) (g : S100000x128.Idx → Elt F .f32) : BI.Storable (upEmb : UEmb _ 𝕄) (CoreHas TB IX d c g) := by
  unfold CoreHas; infer_instance
instance TaskIn_storable (IX : S100000.Idx → Elt F .i32) (d : Dev nD) (L : grid1.Coords) (g : S100000x128.Idx → Elt F .f32) :
    BI.Storable (upEmb : UEmb _ 𝕄) (TaskIn TB IX d L g) := by
  unfold TaskIn Zs Fill; split <;> infer_instance
instance TaskOut_storable (IX : S100000.Idx → Elt F .i32) (d : Dev nD) (L : grid1.Coords) : BI.Storable (upEmb : UEmb _ 𝕄) (TaskOut TB IX d L) := by
  unfold TaskOut Zs Kept; split <;> infer_instance

instance P_storable : (P (F := F) TB IX G).IsStorable where
  st q d c := match q with
    | 0 => (inferInstance : BI.Storable (upEmb : UEmb _ 𝕄) (CoreHas TB IX d c (G d)))
  dn q d c := match q with
    | 0 => (inferInstance : BI.Storable (upEmb : UEmb _ 𝕄) iprop(CoreHas TB IX d c (OUT (TB d) (IX d)) ∗ barsAt d c))
  go q d c i := match q with
    | 0 => (inferInstance : BI.Storable (upEmb : UEmb _ 𝕄) (TaskIn TB (IX d) d (coords c i) (G d)))
  td q d c i := match q with
    | 0 => (inferInstance : BI.Storable (upEmb : UEmb _ 𝕄) iprop(TaskOut TB (IX d) d (coords c i) ∗ semVal (barCell d (coreV c) (subV i)) 0))

end Cert.Proof

end
-- ==== Proof.Split.lean ====
/-
  The tasks' obligation, and a SparseCore's share of the operands split into its tasks' and joined again.
-/
module

public import proofs.«01_k».proof.Proof.Hand

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (TB : Dev nD → S86x128.Idx → Elt F .f32) (IX : Dev nD → S100000.Idx → Elt F .i32) (G : Dev nD → S100000x128.Idx → Elt F .f32)

/-! ## The tasks -/

theorem defs₀_task (c : Fin τ.nSC) (s : Fin τ.nSub) :
    defs₀ (F := F) (.scVector c s) 1 ()
      = SparseCore.onTile hcore1 hsub1 (fun c s => cc1_k (coords c s) tbV (Memref.isWhole_whole _) zV (Memref.isWhole_whole _) oV (Memref.isWhole_whole _)
          lV (Memref.isWhole_whole _) aV (Memref.isWhole_whole _) bV (Memref.isWhole_whole _) shV (Memref.isWhole_whole _) cc1_scratch4 cc1_scratch5 cc1_scratch6
          cc1_scratch7 cc1_scratch8 cc1_scratch9 cc1_scratch10 cc1_scratch11 cc1_scoped0 cc1_scoped1 cc1_scoped2) ⟨⟩ c s := rfl

set_option maxRecDepth 16384 in
/-- Every task meets its obligation. -/
theorem tileObl (hIX : ∀ d, InTable (IX d)) : (K (F := F)).TileObl (D (F := F)) 𝒱 (P TB IX G) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact wp_task TB (IX d) d (coords ⟨_, hci.1⟩ ⟨_, hci.2⟩) kfacts (hIX d) O W hO hOlev (G d)

/-! ## The split -/

/-- What only subcore 0 holds, over the tasks. -/
theorem bigSep_first (X : sProp 𝕄) : (bigSep Finset.univ fun i : Fin 16 => if i.val = 0 then X else iprop(emp)) = X := by
  rw [SparseCore.bigSep_erase' (Finset.mem_univ (0 : Fin 16)),
    show (bigSep (Finset.univ.erase (0 : Fin 16)) fun i : Fin 16 => if i.val = 0 then X else iprop(emp))
      = bigSep (Finset.univ.erase (0 : Fin 16)) fun _ => (iprop(emp) : sProp 𝕄) from
      bigSep_congr fun i hi => if_neg fun h => (Finset.mem_erase.mp hi).1 (Fin.ext h),
    show (bigSep (Finset.univ.erase (0 : Fin 16)) fun _ => (iprop(emp) : sProp 𝕄)) = iprop(emp) from bigSep_emp_const _]
  exact sep_emp_eq' _

/-- The shared scratch is among the sequencer's own buffers: it is it, at some contents, and the rest. -/
theorem ownBufs_core (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((SparseCore.Cfg.mem_ownRefs (p := Proc.scScalar c) (b := shRef c)).mpr rfl)

theorem zs_tasks (d : Dev nD) (c : Fin 2) :
    (bigSep Finset.univ fun i : Fin 16 => Zs (IX d) d (base (coords c i)) (base (coords c i) + 3128) : sProp 𝕄) = iprop(zLoc d ↦[coreIdx c]{fullShare} IX d) := by
  rw [← idx_tasks c, pointsTo_biUnion Finset.univ (ℓ := zLoc d) (taskIdx c) (idx_tasks_disjoint c)]; rfl
theorem rows_of_tasks (d : Dev nD) (c : Fin 2) (g : S100000x128.Idx → Elt F .f32) :
    (bigSep Finset.univ fun i : Fin 16 => iprop(oLoc d ↦[taskRows c i]{fullShare} g) : sProp 𝕄) = iprop(oLoc d ↦[coreRows c]{fullShare} g) := by
  rw [← rows_tasks c, pointsTo_biUnion Finset.univ (ℓ := oLoc d) (taskRows c) (rows_tasks_disjoint c)]
theorem shares_tasks (d : Dev nD) (c : Fin 2) :
    (bigSep Finset.univ fun i : Fin 16 => iprop(shLoc d (coreV c) ↦{readShare (subV i)} TB d) : sProp 𝕄) = iprop(shLoc d (coreV c) ↦{fullShare} TB d) :=
  (ShareLeaves.pointsTo_leaves (ℓ := shLoc d (coreV c)) Finset.univ (TB d) 4 fullShare).symm

/-- All the tasks are handed: the SparseCore's share of the operands and its shared scratch. -/
theorem tasksIn (d : Dev nD) (c : Fin 2) :
    (bigSep Finset.univ fun i : Fin 16 => TaskIn TB (IX d) d (coords c i) (G d) : sProp 𝕄)
      = iprop((zLoc d ↦[coreIdx c]{fullShare} IX d) ∗ (oLoc d ↦[coreRows c]{fullShare} G d)
          ∗ (tLoc d ↦{tblShare c} TB d) ∗ ∃ f, shLoc d (coreV c) ↦{fullShare} f) := by
  unfold TaskIn
  rw [bigSep_sep', bigSep_sep', zs_tasks, rows_of_tasks]
  have h := bigSep_first (F := F) iprop((tLoc d ↦{tblShare c} TB d) ∗ ∃ f, shLoc d (coreV c) ↦{fullShare} f)
  conv_rhs => rw [← h]
  rfl

/-- All the tasks bring back: that share, the rows at the result's value, the shared table whole, the barrier semaphores. -/
theorem tasksOut (d : Dev nD) (c : Fin 2) :
    (bigSep Finset.univ fun i : Fin 16 => iprop(TaskOut TB (IX d) d (coords c i) ∗ semVal (barCell d (coreV c) (subV i)) 0) : sProp 𝕄)
      = iprop(((zLoc d ↦[coreIdx c]{fullShare} IX d) ∗ (oLoc d ↦[coreRows c]{fullShare} OUT (TB d) (IX d))
          ∗ (tLoc d ↦{tblShare c} TB d) ∗ (shLoc d (coreV c) ↦{fullShare} TB d)) ∗ barsAt d c) := by
  unfold TaskOut
  rw [bigSep_sep', bigSep_sep', bigSep_sep', bigSep_sep', zs_tasks, rows_of_tasks, ← shares_tasks TB d c]
  have h := bigSep_first (F := F) iprop(tLoc d ↦{tblShare c} TB d)
  conv_rhs => rw [← h]
  rfl

theorem vecSplit : (K (F := F)).VecSplit (P TB IX G) 0 := by
  intro d c
  show iprop(CoreHas TB IX d c (G d) ∗ ownBufs (S d (coreV c))) ⊢ |={Set.univ}=> iprop(
      (bigSep Finset.univ fun i : Fin 16 => TaskIn TB (IX d) d (coords c i) (G d))
      ∗ ((bigSep Finset.univ fun i : Fin 16 => iprop(TaskOut TB (IX d) d (coords c i) ∗ semVal (barCell d (coreV c) (subV i)) 0))
          -∗ iprop(iprop(CoreHas TB IX d c (OUT (TB d) (IX d)) ∗ barsAt d c) ∗ ownBufs (S d (coreV c)))))
  rw [tasksIn, tasksOut, ownBufs_core]
  unfold CoreHas
  iintro ⟨⟨Hz, Ho, Ht⟩, Hsh, Hrest⟩; imodintro
  isplitl [Hz Ho Ht Hsh]
  · isplitl [Hz]; · iexact Hz
    isplitl [Ho]; · iexact Ho
    isplitl [Ht]; · iexact Ht
    iexact Hsh
  iintro ⟨⟨Hz, Ho, Ht, Hsh⟩, Hbars⟩
  isplitl [Hz Ho Ht Hbars]
  · isplitr [Hbars]; swap; · iexact Hbars
    isplitl [Hz]; · iexact Hz
    isplitl [Ho]; · iexact Ho
    iexact Ht
  isplitl [Hsh]; · iexists _; iexact Hsh
  iexact Hrest

end Cert.Proof

end
-- ==== Proof.Launch.lean ====
/-
  The launch: the ghost state it starts with, and how it is dealt.
-/
module

public import proofs.«01_k».proof.Proof.Region
public import proofs.«01_k».proof.Proof.Split

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
/-!
  The ghost state of the run at its launch, and what it is dealt as: the handshakes' rounds, each tile its part of the
  barrier, each device the state of the TensorCore call's windows.
-/

variable {F : FTy → Type} [FloatOps F]

local notation "𝕄" => MT nD τ sig (HIx 1) (Elt F) ℕ UU ℕ

/-! ## The barrier cells of the whole machine -/

/-- A vector subcore of the machine. -/
abbrev Tile : Type := Dev nD × Fin τ.nSC × Fin τ.nSub
/-- Its barrier cell. -/
abbrev barOf (x : Tile) : GSem nD τ sig := barCell x.1 x.2.1 x.2.2

theorem barOf_injective : Function.Injective barOf := by
  rintro ⟨d, c, i⟩ ⟨d', c', i'⟩ e
  obtain ⟨hd, hp⟩ := Prod.mk.inj (Prod.mk.inj e).1
  obtain ⟨hc, hi⟩ := Proc.scVector.inj hp
  subst hd hc hi
  rfl

/-- Every barrier cell. -/
def barCells : Finset (GSem nD τ sig) := Finset.univ.image barOf
/-- Every arrival: of a tile, at the cell of each tile of its SparseCore. -/
def arrivalToks : Finset (GSem nD τ sig × ℕ × ℕ) :=
  (Finset.univ : Finset (Tile × Fin (grid1.bound 1))).image fun x => (barCell x.1.1 x.1.2.1 (x.2.castLE hsub1), 0, x.1.2.2.val)

theorem bars_tiles (Φ : GSem nD τ sig → sProp 𝕄) : bigSep barCells Φ = bigSep Finset.univ fun x : Tile => Φ (barOf x) :=
  SparseCore.bigSep_image_of_injOn (fun _ _ _ _ e => barOf_injective e) Φ

theorem toks_tiles : (bigSep arrivalToks fun x => (dutyTok EB x.1 x.2.1 x.2.2 : sProp 𝕄))
    = bigSep Finset.univ fun x : Tile => bigSep Finset.univ fun j : Fin (grid1.bound 1) =>
        dutyTok EB (barCell x.1 x.2.1 (j.castLE hsub1)) 0 x.2.2.val := by
  unfold arrivalToks
  rw [SparseCore.bigSep_image_of_injOn, bigSep_univ_prod]
  rintro ⟨⟨d, c, i⟩, j⟩ - ⟨⟨d', c', i'⟩, j'⟩ - e
  obtain ⟨hcell, hn⟩ := Prod.mk.inj e
  obtain ⟨hd, hp⟩ := Prod.mk.inj (Prod.mk.inj hcell).1
  obtain ⟨hc, hj⟩ := Proc.scVector.inj hp
  have hi : i = i' := Fin.ext (Prod.mk.inj hn).2
  have hj' : j = j' := Fin.ext (congrArg Fin.val hj)
  subst hd hc hi hj'
  rfl

/-- The barrier semaphores are among the free ones of the launch, at zero. -/
theorem free_bars : ((K (F := F)).freeOn (· ∈ barCells) : sProp 𝕄) ⊢ bigSep barCells fun g => semVal g 0 := by
  unfold SparseCore.Cfg.freeOn
  rw [bars_tiles]
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => bar_ne_go (SemLoc.reg.inj h), Finset.mem_filter.mpr ⟨Finset.mem_univ _, by decide⟩⟩,
      Finset.mem_image_of_mem barOf (Finset.mem_univ x)⟩)

section Deal
variable (TB : Dev nD → S86x128.Idx → Elt F .f32) (IX : Dev nD → S100000.Idx → Elt F .i32) (G : Dev nD → S100000x128.Idx → Elt F .f32)

/-- The invariants of the barrier cells, from their semaphores at zero and their rounds not begun. -/
theorem bar_invs : iprop((bigSep barCells fun g => (semVal g 0 : sProp 𝕄)) ∗ bigSep barCells fun g => roundState EB (barSched TB) g 0)
    ⊢ |={Set.univ}=> iprop(∃ κ : GSem nD τ sig → ℕ, bigSep barCells fun g => cellInv EB (barSched TB) (κ g) g) := by
  refine (Rounds.bodies_intro EB (barSched TB) barCells).trans
    ((inv_alloc_family barCells (Rounds.body EB (barSched TB)) ∅ (E := Set.univ)).trans ?_)
  iintro H
  imod H with ⟨%κ, -, H⟩
  imodintro; iexists κ; iexact H

theorem tallies_add (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

theorem owed_tile (d : Dev nD) (c : Fin τ.nSC) (i : Fin τ.nSub) : (P (F := F) TB IX G).oxFrom 0 (V d c i) = arrivals d c := by
  rw [show (0 : ℕ) = (0 : Fin 1).val from rfl, (P TB IX G).oxFrom_step, (P TB IX G).oxFrom_end _ (n := (0 : Fin 1).val + 1) le_rfl, add_zero]
  rfl

/-- The credit of what the tiles owe, dealt out as each tile's own round of sixteen arrivals. -/
theorem credits : ((P (F := F) TB IX G).oxCred : sProp 𝕄)
    ⊢ bigSep Finset.univ fun x : Tile => cred (tallyAt (barOf x) (some 0) (grid1.bound 1)) := by
  unfold SparseCore.Cfg.Pay.oxCred
  rw [SparseCore.Cfg.bigSep_threads (fun thr : Thread nD τ => (cred ((P (F := F) TB IX G).oxFrom 0 thr) : sProp 𝕄))]
  refine sep_elim_right.trans (sep_elim_right.trans ?_)
  rw [bigSep_univ_prod, bigSep_univ_prod (fun x : Tile => (cred (tallyAt (barOf x) (some 0) (grid1.bound 1)) : sProp 𝕄))]
  refine bigSep_mono fun d _ => ?_
  rw [bigSep_univ_prod, bigSep_univ_prod (fun ci : Fin τ.nSC × Fin τ.nSub => (cred (tallyAt (barOf (d, ci)) (some 0) (grid1.bound 1)) : sProp 𝕄))]
  refine bigSep_mono fun c _ => ?_
  simp only [owed_tile]
  unfold arrivals
  rw [SparseCore.Cfg.cred_finsum, bigSep_univ_comm]
  refine bigSep_mono fun j _ => ?_
  rw [← SparseCore.Cfg.cred_finsum, tallies_add]
  exact BI.Entails.refl _

/-- What every tile may know: the invariants of the barrier cells, and that each round is open. -/
abbrev known : sProp 𝕄 :=
  iprop((∃ κ : GSem nD τ sig → ℕ, bigSep Finset.univ fun x : Tile => cellInv EB (barSched TB) (κ (barOf x)) (barOf x))
    ∗ bigSep Finset.univ fun x : Tile => reached EB (barOf x) 0)
/-- What one tile alone is dealt. -/
abbrev dealt (x : Tile) : sProp 𝕄 :=
  iprop(atPos EB (barOf x) 0 ∅ 0
    ∗ (bigSep Finset.univ fun j : Fin (grid1.bound 1) => dutyTok EB (barCell x.1 x.2.1 (j.castLE hsub1)) 0 x.2.2.val)
    ∗ cred (tallyAt (barOf x) (some 0) (grid1.bound 1)))

/-- A tile's part of the barrier out of those two. -/
theorem kit_of (x : Tile) : iprop(known (F := F) TB ∗ dealt x) ⊢ (barKit TB x.1 x.2.1 x.2.2 : sProp 𝕄) := by
  obtain ⟨d, c, i⟩ := x
  iintro ⟨⟨⟨%κ, #Hinv⟩, #Hr⟩, Hat, Htok, Hcred⟩
  unfold barKit
  isplitr
  · iexists κ
    iapply (BI.bigSep_intro_persistent (R := bigSep Finset.univ fun x : Tile => cellInv EB (barSched TB) (κ (barOf x)) (barOf x))
      (Φ := fun j : Fin (grid1.bound 1) => cellInv EB (barSched TB) (κ (barCell d c (j.castLE hsub1))) (barCell d c (j.castLE hsub1)))
      fun j _ => bigSep_elim (Φ := fun x : Tile => (cellInv EB (barSched TB) (κ (barOf x)) (barOf x) : sProp 𝕄)) (Finset.mem_univ (d, c, j.castLE hsub1)))
    iexact Hinv
  isplitl [Htok]; · iexact Htok
  isplitr
  · iapply (BI.bigSep_intro_persistent (R := bigSep Finset.univ fun x : Tile => reached EB (barOf x) 0)
      (Φ := fun j : Fin (grid1.bound 1) => reached EB (barCell d c (j.castLE hsub1)) 0)
      fun j _ => bigSep_elim (Φ := fun x : Tile => (reached EB (barOf x) 0 : sProp 𝕄)) (Finset.mem_univ (d, c, j.castLE hsub1)))
    iexact Hr
  isplitl [Hat]; · iexact Hat
  iexact Hcred

/-- Something persistent beside a family goes to each of it. -/
theorem bigSep_with {I : Type} [DecidableEq I] (R : sProp 𝕄) [BI.Persistent R] (s : Finset I) {Φ Ψ : I → sProp 𝕄}
    (h : ∀ i, iprop(R ∗ Φ i) ⊢ Ψ i) : iprop(R ∗ bigSep s Φ) ⊢ bigSep s Ψ := by
  iintro ⟨#HR, H⟩
  iapply (SparseCore.ent (bigSep_mono (s := s) (Φ := fun i => iprop(R ∗ Φ i)) (Ψ := Ψ) fun i _ => h i))
  rw [bigSep_sep']
  isplitr
  · iapply (BI.bigSep_intro_persistent (R := R) (Φ := fun _ => R) (S := s) fun _ _ => BI.Entails.refl _); iexact HR
  iexact H

/-- Every thread what the call hands it at the launch: the tiles their part of the barrier, the others nothing. -/
theorem deal :
    iprop(known (F := F) TB ∗ bigSep Finset.univ fun x : Tile => dealt x)
      ⊢ (bigSep Finset.univ fun thr : Thread nD τ => bigSep Finset.univ fun q : Fin 1 => (P (F := F) TB IX G).x q thr : sProp 𝕄) := by
  rw [SparseCore.Cfg.bigSep_threads (fun thr : Thread nD τ => bigSep Finset.univ fun q : Fin 1 => (P TB IX G).x q thr)]
  have h1 (thr : Thread nD τ) : (bigSep Finset.univ fun q : Fin 1 => (P (F := F) TB IX G).x q thr) = (P (F := F) TB IX G).x 0 thr :=
    bigSep_univ_of_subsingleton (0 : Fin 1)
  simp only [h1]
  iintro H
  isplitr
  · rw [show (bigSep Finset.univ fun d : Dev nD => (P (F := F) TB IX G).x 0 (SparseCore.T d)) = iprop(emp) from bigSep_emp_const _]
    iempintro
  isplitr
  · rw [show (bigSep Finset.univ fun x : Dev nD × Fin τ.nSC => (P (F := F) TB IX G).x 0 (S x.1 x.2)) = iprop(emp) from bigSep_emp_const _]
    iempintro
  iapply (bigSep_with (known (F := F) TB) Finset.univ (Φ := dealt (F := F)) fun x => kit_of (F := F) TB x)
  iexact H

end Deal

/-! ## The element of the ghost state, and its parts -/

theorem cellOf_one : Function.Injective (Pipeline.cellOf (nD := nD) (τ := τ) (Pipeline.pin (pcfgs (F := F)) adm)) := cellOf_inj

/-- The ghost state at the launch. -/
def u₀ : UU :=
  (initOf (K (F := F)).hsCells (K (F := F)).hsToks, (initOf barCells arrivalToks,
    (initOf (Pipeline.cells (Pipeline.pin (pcfgs (F := F)) adm) cellOf_one) (Pipeline.launchToks (Pipeline.pin (pcfgs (F := F)) adm) cellOf_one), 1)))

theorem own_parts (a : UH) (b : UB) (p : UP) :
    (ownU ((a, (b, (p, 1))) : UU) : sProp 𝕄) ⊢ iprop(BI.own (EH a) ∗ BI.own (EB b) ∗ BI.own (EP p)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (p, (1 : Counters))))))).trans (BI.sep_mono (BI.Entails.refl (BI.own (EH a))) ?_)
  exact BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op (p, (1 : Counters))))))

/-- The state of the TensorCore call's windows on device `d`. -/
def winGhost (d : Dev nD) : sProp 𝕄 :=
  iprop(Pipeline.cellsGhost (Pipeline.pin (pcfgs (F := F)) adm) EP 0 d ∗ Pipeline.toksInit (Pipeline.pin (pcfgs (F := F)) adm) EP 0 d)

theorem win_ghosts (p : UP) (hp : p = initOf (Pipeline.cells (Pipeline.pin (pcfgs (F := F)) adm) cellOf_one) (Pipeline.launchToks (Pipeline.pin (pcfgs (F := F)) adm) cellOf_one)) :
    (BI.own (EP p) : sProp 𝕄) ⊢ iprop(|==> bigSep Finset.univ fun d : Dev nD => winGhost (F := F) d) := by
  subst hp
  have h1 (Φ : Fin 1 → sProp 𝕄) : bigSep Finset.univ Φ = Φ 0 := bigSep_univ_of_subsingleton (0 : Fin 1)
  iintro H
  imod (Pipeline.fund_ghost (Pipeline.pin (pcfgs (F := F)) adm) EP cellOf_one) $$ H with ⟨H1, H2⟩
  imodintro
  unfold winGhost
  rw [bigSep_sep']
  simp only [h1]
  isplitl [H1]; · iexact H1
  iexact H2

section Start
variable (TB : Dev nD → S86x128.Idx → Elt F .f32) (IX : Dev nD → S100000.Idx → Elt F .i32) (G : Dev nD → S100000x128.Idx → Elt F .f32)

/-- The launch: the handshakes' state, each device the state of its windows, each thread what the call hands it. -/
theorem start : iprop(ownU (u₀ (F := F)) ∗ (P (F := F) TB IX G).oxCred ∗ (K (F := F)).freeOn (· ∈ barCells))
    ⊢ |={Set.univ}=> iprop(BI.own (EH (initOf (K (F := F)).hsCells (K (F := F)).hsToks)) ∗ (bigSep Finset.univ fun d : Dev nD => winGhost (F := F) d)
        ∗ (bigSep Finset.univ fun thr : Thread nD τ => bigSep Finset.univ fun q : Fin 1 => (P TB IX G).x q thr) : sProp 𝕄) := by
  unfold u₀
  iintro ⟨Hu, Hcred, Hfree⟩
  ihave H := (own_parts _ _ _) $$ Hu
  icases H with ⟨HH, HB, HP⟩
  imod (win_ghosts _ rfl) $$ HP with HW
  imod (Rounds.fund EB (barSched TB) barCells arrivalToks) $$ HB with ⟨Hst, #Hr, Hat, Htok⟩
  ihave Hsems := (free_bars (F := F)) $$ Hfree
  imod (bar_invs TB) $$ [Hsems Hst] with ⟨%κ, #Hinv⟩
  · isplitl [Hsems]; · iexact Hsems
    iexact Hst
  ihave Hcred := (credits TB IX G) $$ Hcred
  ihave Hinv' := (Entails.of_eq (bars_tiles (F := F) fun g => cellInv EB (barSched TB) (κ g) g)) $$ Hinv
  ihave Hr' := (Entails.of_eq (bars_tiles (F := F) fun g => reached EB g 0)) $$ Hr
  ihave Hat := (Entails.of_eq (bars_tiles (F := F) fun g => atPos EB g 0 ∅ 0)) $$ Hat
  ihave Htok := (Entails.of_eq (toks_tiles (F := F))) $$ Htok
  imodintro
  isplitl [HH]; · iexact HH
  isplitl [HW]; · iexact HW
  iapply (deal TB IX G)
  isplitr
  · isplitr
    · iexists κ; iexact Hinv'
    iexact Hr'
  unfold dealt
  rw [bigSep_sep', bigSep_sep']
  isplitl [Hat]; · iexact Hat
  isplitl [Htok]; · iexact Htok
  iexact Hcred

end Start

end Cert.Proof

end
-- ==== Proof.Main.lean ====
/-
  The program on the TensorCore, and the whole run.
-/
module

public import proofs.«01_k».proof.Proof.Launch

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
/-!
  `@main` on the TensorCore: the slice of the configurations, the call that fuses the tables, the SparseCore call that
  looks the rows up; and from it the whole program's run, with the value it leaves.
-/

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operands and the result -/

/-- Where an array of `@main` lies on device `d`. -/
abbrev at_ (d : Dev nD) (b : Ref sig .tc) : Loc nD τ sig := (d.tc : Thread nD τ).loc b

/-- The configurations the first call is given: all but the last row. -/
def cut (w : S87x20.Idx → Elt F .f32) : S86x20.Idx → Elt F .f32 := extractStridedSlice S86x20 ![0, 0] w slices_S87x20_S86x20_0_0
/-- The arrays as the first call finds them: the launch's, the slice taken. -/
def V₁ (c : Dev nD) : (b : Ref sig .tc) → Buf (Elt F) (at_ c b) :=
  Function.update (fun b => m (at_ c b)) main_v0 (cut (m (at_ c main_arg1)))

theorem V₁_v0 (c : Dev nD) : V₁ m c main_v0 = cut (m (at_ c main_arg1)) := Function.update_self ..
theorem V₁_arg2 (c : Dev nD) : V₁ m c main_arg2 = m (at_ c main_arg2) := Function.update_of_ne (by decide) ..
theorem V₁_arg3 (c : Dev nD) : V₁ m c main_arg3 = m (at_ c main_arg3) := Function.update_of_ne (by decide) ..
theorem V₁_v1 (c : Dev nD) : V₁ m c main_v1 = m (at_ c main_v1) := Function.update_of_ne (by decide) ..

/-- The fused table, the indices, and what the result's array held. -/
def TBm (d : Dev nD) : S86x128.Idx → Elt F .f32 := fused (cut (m (at_ d main_arg1))) (m (at_ d main_arg2)) (m (at_ d main_arg3))
def IXm (d : Dev nD) : S100000.Idx → Elt F .i32 := m (zLoc d)
def Gm (d : Dev nD) : S100000x128.Idx → Elt F .f32 := m (oLoc d)

theorem table_V₁ (d : Dev nD) : tableOf (V₁ m) d = TBm m d := by
  unfold tableOf TBm; rw [V₁_v0, V₁_arg2, V₁_arg3]

/-! ## The slice -/

/-- The slice as an operation of the program. -/
abbrev sliceOp : HloOp τ sig (Elt F) :=
  StableHlo.unary main_arg1 main_v0 ((extractStridedSlice S86x20 ![0, 0] · slices_S87x20_S86x20_0_0) : (⟨S87x20, .f32⟩ : BufTy).Contents (Elt F) → (⟨S86x20, .f32⟩ : BufTy).Contents (Elt F))

theorem slice_bufs (d : Dev nD) (W : Valuation τ sig (Elt F)) :
    (bigSep (sliceOp (F := F)).bufs (fun b => ((d, b) : Loc nD τ sig) ↦{fullShare} W b) : sProp 𝕄)
      = iprop((at_ d main_arg1 ↦{fullShare} W (Proc.devRef .tc main_arg1)) ∗ (at_ d main_v0 ↦{fullShare} W (Proc.devRef .tc main_v0))) := by
  rw [show (sliceOp (F := F)).bufs = {Proc.devRef .tc main_arg1, Proc.devRef .tc main_v0} from rfl,
    SparseCore.bigSep_insert' (by decide), bigSep_singleton]

/-- The slice, run: from its operand and its result's array to the same with the slice in the latter. -/
theorem wp_slice (d : Dev nD) (Q : PUnit → sProp 𝕄) :
    iprop(boundary (SparseCore.T d) ∗ (at_ d main_arg1 ↦{fullShare} m (at_ d main_arg1)) ∗ (at_ d main_v0 ↦{fullShare} m (at_ d main_v0))
        ∗ ((boundary (SparseCore.T d) ∗ (at_ d main_arg1 ↦{fullShare} m (at_ d main_arg1)) ∗ (at_ d main_v0 ↦{fullShare} cut (m (at_ d main_arg1)))) -∗ Q ⟨⟩))
      ⊢ wp frame (wpE ((K (F := F)).defs (D (F := F))) 𝒱 (SparseCore.T d) none) Set.univ (hlo rfl (sliceOp (F := F)) fun _ => .ret ⟨⟩) Q := by
  iintro ⟨Hb, Ha, Hv, Hk⟩
  iapply (wp_hlo 𝒱 (SparseCore.T d) none Set.univ (hp := rfl) (op := sliceOp (F := F)) (q := fun _ => fullShare) (F := fun b => m (d, b)) (fun _ _ => rfl)) $$ [Hb Ha Hv]
  · isplitl [Hb]; · iexact Hb
    rw [slice_bufs]
    isplitl [Ha]; · iexact Ha
    iexact Hv
  rw [slice_bufs, StableHlo.unary_result, StableHlo.unary_result_ne' _ _ _ _ (by decide)]
  iintro ⟨Hb, Ha, Hv⟩
  rw [wp_ret]
  imodintro
  iapply Hk
  isplitl [Hb]; · iexact Hb
  isplitl [Ha]; · iexact Ha
  iexact Hv

/-! ## The two SparseCores together -/

/-- What the SparseCore call is given and gives back, of both SparseCores: its operands and its result, whole. -/
theorem cores_have (TB : Dev nD → S86x128.Idx → Elt F .f32) (IX : Dev nD → S100000.Idx → Elt F .i32) (d : Dev nD) (g : S100000x128.Idx → Elt F .f32) :
    (bigSep Finset.univ fun c : Fin 2 => CoreHas TB IX d c g : sProp 𝕄)
      = iprop((zLoc d ↦{fullShare} IX d) ∗ (oLoc d ↦{fullShare} g) ∗ (tLoc d ↦{fullShare} TB d)) := by
  unfold CoreHas
  rw [bigSep_sep', bigSep_sep', ← pointsTo_biUnion Finset.univ (ℓ := zLoc d) coreIdx idx_cores_disjoint, idx_cores,
    ← pointsTo_biUnion Finset.univ (ℓ := oLoc d) coreRows rows_cores_disjoint, rows_cores]
  rw [ShareLeaves.pointsTo_leaves (ℓ := tLoc d) Finset.univ (TB d) 1 fullShare]
  rfl

/-- What the SparseCore call gives back: that, and every tile's barrier cell at zero. -/
theorem cores_done (TB : Dev nD → S86x128.Idx → Elt F .f32) (IX : Dev nD → S100000.Idx → Elt F .i32) (G : Dev nD → S100000x128.Idx → Elt F .f32) (d : Dev nD) :
    (bigSep Finset.univ fun c : Fin ((K (F := F)).nCore 0) => (P TB IX G).dn 0 d c)
      = iprop(((zLoc d ↦{fullShare} IX d) ∗ (oLoc d ↦{fullShare} OUT (TB d) (IX d)) ∗ (tLoc d ↦{fullShare} TB d)) ∗ bigSep Finset.univ fun c : Fin 2 => barsAt d c) := by
  rw [← cores_have TB IX d (OUT (TB d) (IX d)), ← bigSep_sep']
  rfl

/-- What the core owes before the SparseCore call, as the call states it. -/
theorem owing_eq (d : Dev nD) :
    (iprop(∃ W, ⌜(K (F := F)).WBelow (SparseCore.T d) W (8 * SparseCore.Cfg.Blocks.fst 1 1 0)⌝ ∗ owes (SparseCore.T d) ((K (F := F)).Otc d 0) W) : sProp 𝕄) = owing (F := F) d := by
  unfold owing; rfl

/-! ## `@main` -/

theorem unscopedBufs_eq (d : Dev nD) (W : (b : Ref sig .tc) → Buf (Elt F) (at_ d b)) :
    (unscopedBufs d W : sProp 𝕄) = iprop((at_ d main_arg0 ↦{fullShare} W main_arg0) ∗ (at_ d main_arg1 ↦{fullShare} W main_arg1)
      ∗ (at_ d main_arg2 ↦{fullShare} W main_arg2) ∗ (at_ d main_arg3 ↦{fullShare} W main_arg3)
      ∗ (at_ d main_v0 ↦{fullShare} W main_v0) ∗ (at_ d main_v1 ↦{fullShare} W main_v1) ∗ (at_ d main_v2 ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What `@main` ends with on device `d`: the arguments as they were, the result's rows looked up, the barrier cells at zero. -/
def FIN (d : Dev nD) : sProp 𝕄 :=
  iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_v2 ↦{fullShare} OUT (TBm m d) (IXm m d)) ∗ bigSep Finset.univ fun c : Fin 2 => barsAt d c)

/-- The call that fuses the tables, run: from its operands and its result's array to the same with the fused table in the latter. -/
theorem wp_fuse_call [∀ e, Nonempty (Elt F e)] (d : Dev nD) (Q : PUnit → sProp 𝕄) :
    iprop(boundary (SparseCore.T d) ∗ arrs (V₁ m) d (m (at_ d main_v1)) ∗ owing (F := F) d ∗ levAts (K (F := F)).L (K (F := F)).lev ∗ winGhost (F := F) d
        ∗ ((boundary (SparseCore.T d) ∗ arrs (V₁ m) d (TBm m d) ∗ owing (F := F) d) -∗ Q ⟨⟩))
      ⊢ wp frame (wpE ((K (F := F)).defs (D (F := F))) 𝒱 (SparseCore.T d) none) Set.univ (Prog.lift (.customCall (SparseCore.inner (Pipeline.entry 0)) ())) Q := by
  have hl := (K (F := F)).wp_liftProg (D (F := F)) 𝒱 (SparseCore.T d) Set.univ none (.op (.customCall (Pipeline.entry 0) ()) .ret) Q
  refine BI.Entails.trans ?_ hl
  refine BI.Entails.trans ?_ (Pipeline.RegionSeg.wp pcfgs adm (pdats (V₁ m)) none cellOf_one EP defs₀ 𝒱₀ (K (F := F)).L (K (F := F)).lev (reg (V₁ m)) d none (fun u hu => nomatch hu) .ret Q)
  show _ ⊢ iprop((iprop(boundary (SparseCore.T d) ∗ arrs (V₁ m) d (tableOf (V₁ m) d) ∗ owing (F := F) d) -∗ _)
    ∗ boundary (SparseCore.T d) ∗ (arrs (V₁ m) d (V₁ m d main_v1) ∗ owing (F := F) d) ∗ _)
  rw [table_V₁, V₁_v1, wp_ret]
  unfold winGhost
  iintro ⟨Hb, Ha, HO, Hlev, ⟨Hg, Ht⟩, Hk⟩
  isplitl [Hk]
  · iintro H; imodintro; iapply Hk; iexact H
  isplitl [Hb]; · iexact Hb
  isplitl [Ha HO]
  · isplitl [Ha]; · iexact Ha
    iexact HO
  isplitl [Hlev]; · iexact Hlev
  isplitl [Hg]; · iexact Hg
  iexact Ht

/-- The TensorCore's program on device `d`. -/
theorem hmain [∀ e, Nonempty (Elt F e)] (κ : GSem nD τ sig → ℕ) (d : Dev nD) :
    iprop((K (F := F)).ctx EH (P (TBm m) (IXm m) (Gm m)) κ ∗ (K (F := F)).tcSt EH d 0 ∗ (K (F := F)).tcRes m ρ d ∗ winGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, Hv0, Hv1, Hv2⟩, Hts, -⟩, HG⟩
  ihave Hlev := ((K (F := F)).ctx_levAts κ) $$ Hctx
  iapply (wp_slice m d _)
  isplitl [Hb]; · iexact Hb
  isplitl [H1]; · iexact H1
  isplitl [Hv0]; · iexact Hv0
  iintro ⟨Hb, H1, Hv0⟩
  iapply (wp_fuse_call m d _)
  isplitl [Hb]; · iexact Hb
  isplitl [H2 H3 Hv0 Hv1]
  · unfold arrs; rw [V₁_v0, V₁_arg2, V₁_arg3]
    isplitl [Hv0]; · iexact Hv0
    isplitl [H2]; · iexact H2
    isplitl [H3]; · iexact H3
    iexact Hv1
  unfold SparseCore.Cfg.tcSt
  icases Hst with ⟨HO, Hst⟩
  isplitl [HO]; · iapply (Entails.of_eq (owing_eq d)); iexact HO
  isplitl [Hlev]; · iexact Hlev
  isplitl [HG]; · iexact HG
  iintro ⟨Hb, Ha, HO⟩
  unfold arrs; rw [V₁_v0, V₁_arg2, V₁_arg3]
  icases Ha with ⟨-, H2, H3, Hv1⟩
  iapply ((K (F := F)).wp_run (D (F := F)) 𝒱 (EH := EH) (P := P (TBm m) (IXm m) (Gm m)) κ d 0)
  isplitr; · iexact Hctx
  isplitl [Hst HO]
  · unfold SparseCore.Cfg.tcSt
    isplitl [HO]; · iapply (Entails.of_eq (owing_eq d).symm); iexact HO
    iexact Hst
  isplitl [H0 Hv1 Hv2]
  · iapply (Entails.of_eq (cores_have (TBm m) (IXm m) d (Gm m d)).symm)
    isplitl [H0]; · iexact H0
    isplitl [Hv2]; · iexact Hv2
    iexact Hv1
  iintro ⟨Hst, Hdn⟩
  ihave Hdn' := (Entails.of_eq (cores_done (TBm m) (IXm m) (Gm m) d)) $$ Hdn
  icases Hdn' with ⟨⟨H0, Hv2, -⟩, Hbars⟩
  imodintro
  isplitl [Hst]; · unfold SparseCore.Cfg.tcSt; iexact Hst
  isplitr [Hb Hts]
  · unfold FIN
    isplitl [H0]; · iexact H0
    isplitl [H1]; · iexact H1
    isplitl [H2]; · iexact H2
    isplitl [H3]; · iexact H3
    isplitl [Hv2]; · iexact Hv2
    iexact Hbars
  isplitl [Hb] <;> iassumption

/-! ## What is read off at the end -/

def fq (d : Dev nD) (s' : Phys nD τ sig (Elt F)) : Prop :=
  (s'.mem.mem (at_ d main_arg0) = m (at_ d main_arg0) ∧ s'.mem.mem (at_ d main_arg1) = m (at_ d main_arg1)
    ∧ s'.mem.mem (at_ d main_arg2) = m (at_ d main_arg2) ∧ s'.mem.mem (at_ d main_arg3) = m (at_ d main_arg3)
    ∧ s'.mem.mem (at_ d main_v2) = OUT (TBm m d) (IXm m d))
  ∧ ∀ (c : Fin 2) (i : Fin 16), s'.mem.sem (barCell d (coreV c) (subV i)) = 0

/-- A whole array holds what it is said to. -/
theorem whole_read (ℓ : Loc nD τ sig) (f : Buf (Elt F) ℓ) (s' : Phys nD τ sig (Elt F)) (R : sProp 𝕄) :
    iprop(((ℓ ↦{fullShare} f) ∗ R) ∗ SI s') ⊢ (⌜s'.mem.mem ℓ = f⌝ : sProp 𝕄) := by
  iintro ⟨⟨H, -⟩, HSI⟩
  ihave H := (SI_pointsTo_agree (st := s') (ℓ := ℓ) (I := Finset.univ) (q := fullShare) (f := f)) $$ [HSI H]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx => by
  have drop {A B : sProp 𝕄} (h : iprop((A ∗ B) ∗ SI s') x) : iprop(B ∗ SI s') x :=
    (sep_mono_left sep_elim_right : iprop((A ∗ B) ∗ SI s') ⊢ iprop(B ∗ SI s')) x h
  have h1 := drop hx
  have h2 := drop h1
  have h3 := drop h2
  have h4 := drop h3
  have h5 := drop h4
  refine ⟨⟨whole_read _ _ s' _ x hx, whole_read _ _ s' _ x h1, whole_read _ _ s' _ x h2, whole_read _ _ s' _ x h3, whole_read _ _ s' _ x h4⟩, fun c i => ?_⟩
  exact ((sep_mono_left ((SparseCore.ent (bigSep_elim (Finset.mem_univ c))).trans (SparseCore.ent (bigSep_elim (Finset.mem_univ i))))).trans
    (SparseCore.Cfg.semVal_zero_read _ s')) x h5

/-- The barrier cells end at zero. -/
theorem hA (s' : Phys nD τ sig (Elt F)) (h : ∀ d, fq m d s') (g : GSem nD τ sig) (hg : g ∈ barCells) : s'.mem.sem g = 0 := by
  obtain ⟨⟨d, c, i⟩, -, rfl⟩ := Finset.mem_image.mp hg
  exact (h d).2 ⟨c.val, c.isLt⟩ ⟨i.val, i.isLt⟩

/-! ## The program's run -/

/-- The end of the run: the arguments unchanged, the result the table's rows at the indices, every semaphore at zero. -/
def QC : PUnit × MemSt nD τ sig (Elt F) → Prop := fun r =>
  (∀ d : Dev nD, r.2.mem (at_ d main_arg0) = m (at_ d main_arg0) ∧ r.2.mem (at_ d main_arg1) = m (at_ d main_arg1)
    ∧ r.2.mem (at_ d main_arg2) = m (at_ d main_arg2) ∧ r.2.mem (at_ d main_arg3) = m (at_ d main_arg3)
    ∧ r.2.mem (at_ d main_v2) = OUT (TBm m d) (IXm m d))
  ∧ r.2.sem = fun _ => 0

/-- From any memory whose indices lie in the table, the program runs and ends at `QC`. -/
theorem run_main [∀ e, Nonempty (Elt F e)] (hIX : ∀ d, InTable (IXm m d)) :
    θ_run (defs (F := F)) (threads (F := F)) ⟨m, fun _ => 0, ρ⟩ (QC m) :=
  SparseCore.Cfg.θ_run_sc_quiescent (K := K (F := F)) (D := D (F := F)) (𝒱 := 𝒱) (EH := EH) (P := P (TBm m) (IXm m) (Gm m)) (hA := hA m) kfacts v₀
    (fun q hq => match q with | 0 => nomatch hq)
    (fun q _ => match q with | 0 => tileObl (TBm m) (IXm m) (Gm m) hIX)
    (fun q _ => match q with | 0 => vecSplit (TBm m) (IXm m) (Gm m))
    m ρ main winGhost (FIN m) (u₀ (F := F)) (start (TBm m) (IXm m) (Gm m)) (hmain m ρ) (fq m) (hfin m) (QC m) (fun _ h hz => ⟨fun c => (h c).1, hz⟩)

end Cert.Proof

end
-- ==== Proof.Lookup.lean ====
/-
  What the reference computes, read at an index: for indices that name rows of the table, the configuration's row times
  the weights' transpose plus the table's row.
-/
module

public import proofs.«01_k».proof.Proof.Gen.ReferenceIdeal.Run
public import Idealize.ShloMosaic.Lib.ReduceAll
public import Idealize.ShloMosaic.Lib.Routing.Ops
public import Idealize.ShloMosaic.Lib.StableHlo.Predicate
public import Idealize.ShloMosaic.Lib.StackMember
public import Idealize.ShloMosaic.Lib.ValueLayout

@[expose] public section

noncomputable section

namespace Cert.Proof.Lookup

open Cert.ReferenceIdeal Cert.ReferenceIdeal.Gen
open Idealize.ShloMosaic Idealize.ShloMosaic.ValueIdx Idealize.ShloMosaic.StableHlo.Predicate

/-- Every index names a row of the table. -/
def Within (z : S100000.Idx → BitVec 32) : Prop := ∀ i, (z i).toNat < 86

/-- The rows looked up in an array of `n` rows, as the program forms them: a negative index counts from the end. -/
abbrev starts (z : IVec S100000 32) (n : BitVec 32) : IVec S100000x1 32 :=
  broadcastInDim S100000x1 ![0] bcast_S100000_S100000x1_0
    (select (cmpi .slt z (broadcastInDim S100000 ![] bcast_S_S100000 (constantI S_ 32 0#32)))
      (addi z (broadcastInDim S100000 ![] bcast_S_S100000 (constantI S_ 32 n))) z)

/-- Which of them lie between 0 and `lim`. -/
abbrev inside (z : IVec S100000 32) (n lim : BitVec 32) : IVec S100000 1 :=
  Host.reduce IntOp.andi
    (andi (cmpi .sge (starts z n) (broadcastInDim S100000x1 ![] bcast_S_S100000x1 (constantI S_ 32 0#32)))
      (cmpi .sle (starts z n) (broadcastInDim S100000x1 ![0, 1] bcast_S1x1_S100000x1_0_1 (broadcastInDim S1x1 ![1] bcast_S1_S1x1_1 (constantI S1 32 lim)))))
    (constantI S_ 1 1#1) reducesTo_S100000x1_S100000_d1 h_S_

variable {z : IVec S100000 32}

/-- A vector laid along the rows of a rectangle, read at an index. -/
theorem rows_of {α : Type} {n k : ℕ} (hn : n ≠ 1) (h : (⟨1, ![n]⟩ : Shape).BroadcastsInDim ⟨2, ![n, k]⟩ ![0]) (x : (⟨1, ![n]⟩ : Shape).Idx → α)
    (j : (⟨2, ![n, k]⟩ : Shape).Idx) : broadcastInDim ⟨2, ![n, k]⟩ ![0] h x j = x (ix1 (j 0)) := by
  refine congrArg x (funext fun a => ?_)
  match a with
  | ⟨0, _⟩ => exact dif_neg hn

/-- Element by element. -/
theorem cmpi_at {s : Shape} {w : ℕ} (p : CmpIPredicate) (x y : IVec s w) (i : s.Idx) : cmpi p x y i = IntOp.cmpi p (x i) (y i) := rfl
theorem andi_at {s : Shape} {w : ℕ} (x y : IVec s w) (i : s.Idx) : andi x y i = IntOp.andi (x i) (y i) := rfl
/-- A constant, broadcast. -/
theorem constant_at {s t : Shape} {w : ℕ} (dims : Fin s.rank → Fin t.rank) (h : s.BroadcastsInDim t dims) (v : BitVec w) (j : t.Idx) :
    broadcastInDim t dims h (constantI s w v) j = v := rfl
theorem constant_at₂ {r s t : Shape} {w : ℕ} (dims : Fin s.rank → Fin t.rank) (h : s.BroadcastsInDim t dims) (dims' : Fin r.rank → Fin s.rank)
    (h' : r.BroadcastsInDim s dims') (v : BitVec w) (j : t.Idx) : broadcastInDim t dims h (broadcastInDim s dims' h' (constantI r w v)) j = v := rfl

/-- An index that is not negative is looked up as it is. -/
theorem starts_apply (hz : Within z) (n : BitVec 32) (j : S100000x1.Idx) : starts z n j = z (ix1 (j 0)) := by
  unfold starts
  rw [rows_of (by decide), select_apply, cmpi_at, constant_at]
  have h0 : IntOp.cmpi .slt (z (ix1 (j 0))) 0#32 = 0#1 := by
    refine (BitVec.eq_zero_or_eq_one _).resolve_right fun h => ?_
    have := (slt_iff_toNat (by have := hz (ix1 (j 0)); omega) (by decide)).1 h
    exact absurd this (Nat.not_lt_zero _)
  rw [h0, select_zero]

/-- All of them lie there, where `lim` is at least the last row. -/
theorem inside_eq (hz : Within z) (n lim : BitVec 32) (h : 85 ≤ lim.toNat) (h' : lim.toNat < 2 ^ 31) (i : S100000.Idx) : inside z n lim i = 1#1 := by
  refine Host.reduce_andi_one _ _ _ _ _ rfl fun j => ?_
  have hj := hz (ix1 (j 0))
  have h1 : IntOp.cmpi .sge (starts z n j) 0#32 = 1#1 := by
    rw [starts_apply hz]; exact (sge_iff_toNat (by omega) (by decide)).2 (Nat.zero_le _)
  have h2 : IntOp.cmpi .sle (starts z n j) lim = 1#1 := by
    rw [starts_apply hz]; exact (sle_iff_toNat (by omega) h').2 (by omega)
  rw [andi_at, cmpi_at, cmpi_at, constant_at, constant_at₂, h1, h2]; rfl

/-- The row that place `r` looks up. -/
abbrev rowAt (hz : Within z) (r : Fin 100000) : Fin 86 := ⟨(z (ix1 r)).toNat, hz _⟩

theorem starts_row (hz : Within z) (n : BitVec 32) (r : Fin 100000) : starts z n (ix2 r (0 : Fin 1)) = BitVec.ofNat 32 (rowAt hz r).val := by
  rw [starts_apply hz]; exact (BitVec.eq_of_toNat_eq (by rw [BitVec.toNat_ofNat, Nat.mod_eq_of_lt (z (ix1 r)).isLt]))

/-- The configurations' lookup. -/
theorem take_configs {F : FTy → Type} (hz : Within z) (x : FVec F S87x20 .f32) (nan : FVec F S100000x20 .f32) (r : Fin 100000) (k : Fin 20) :
    select (broadcastInDim S100000x20 ![0] bcast_S100000_S100000x20_0 (inside z 87#32 86#32))
      (Host.gather gather_S87x20_S100000x1_S100000x20_1_0_n_n_0_1_120 x (starts z 87#32)) nan (ix2 r k) = x (ix2 ((rowAt hz r).castLE (by decide)) k) := by
  rw [select_apply, rows_of (by decide), inside_eq hz _ _ (by decide) (by decide), select_one]
  exact Routing.gather_row _ rfl rfl rfl rfl rfl x _ r k _ (starts_row hz _ r) (by decide)

/-- The table's lookup. -/
theorem take_table {F : FTy → Type} (hz : Within z) (x : FVec F S86x128 .f32) (nan : FVec F S100000x128 .f32) (r : Fin 100000) (c : Fin 128) :
    select (broadcastInDim S100000x128 ![0] bcast_S100000_S100000x128_0 (inside z 86#32 85#32))
      (Host.gather gather_S86x128_S100000x1_S100000x128_1_0_n_n_0_1_1128 x (starts z 86#32)) nan (ix2 r c) = x (ix2 (rowAt hz r) c) := by
  rw [select_apply, rows_of (by decide), inside_eq hz _ _ (by decide) (by decide), select_one]
  exact Routing.gather_row _ rfl rfl rfl rfl rfl x _ r c _ (starts_row hz _ r) (by decide)

/-- The reference's result as the program writes it. -/
abbrev refOut (z : IVec S100000 32) (ec : FVec Ideal S87x20 .f32) (mw : FVec Ideal S128x20 .f32) (zt : FVec Ideal S86x128 .f32) : FVec Ideal S100000x128 .f32 :=
  addf (Host.dotGeneral dot_S100000x20_S20x128_S100000x128_1_0_0_1_n_n none
      (select (broadcastInDim S100000x20 ![0] bcast_S100000_S100000x20_0 (inside z 87#32 86#32))
        (Host.gather gather_S87x20_S100000x1_S100000x20_1_0_n_n_0_1_120 ec (starts z 87#32))
        (broadcastInDim S100000x20 ![] bcast_S_S100000x20 (constant S_ .f32 0x7FC00000#32)))
      (transpose S20x128 [1, 0] mw transposes_S128x20_S20x128_1_0))
    (select (broadcastInDim S100000x128 ![0] bcast_S100000_S100000x128_0 (inside z 86#32 85#32))
      (Host.gather gather_S86x128_S100000x1_S100000x128_1_0_n_n_0_1_1128 zt (starts z 86#32))
      (broadcastInDim S100000x128 ![] bcast_S_S100000x128 (constant S_ .f32 0x7FC00000#32)))

theorem dot_plain : dot_S100000x20_S20x128_S100000x128_1_0_0_1_n_n = DotDims.plain 100000 20 128 := rfl

/-- The reference's result at row `r`, column `c`. -/
theorem refOut_apply (hz : Within z) (ec : FVec Ideal S87x20 .f32) (mw : FVec Ideal S128x20 .f32) (zt : FVec Ideal S86x128 .f32) (r : Fin 100000) (c : Fin 128) :
    refOut z ec mw zt (ix2 r c)
      = (∑ k : Fin 20, ec (ix2 ((rowAt hz r).castLE (by decide)) k) * mw (ix2 c k)) + zt (ix2 (rowAt hz r) c) := by
  unfold refOut
  rw [addf_apply, take_table hz, dot_plain, StackMember.dotGeneral_plain_apply]
  refine congrArg (· + zt (ix2 (rowAt hz r) c)) (Finset.sum_congr rfl fun k _ => ?_)
  rw [take_configs hz, transpose_ix2_apply]

end Cert.Proof.Lookup

end
-- ==== Proof.Value.lean ====
/-
  The value: the kernel computes what the reference does.
-/
module

public import proofs.«01_k».proof.Proof.Main
public import proofs.«01_k».proof.Proof.Lookup
public import proofs.«01_k».proof.Proof.Gen.Pre_in_range
public import Idealize.ShloMosaic.Lib.MatmulPlain

@[expose] public section

noncomputable section

namespace Cert.Proof

open Cert.KernelIdeal Cert.KernelIdeal.Gen

open Idealize.ShloMosaic
open Idealize.ShloMosaic.SparseCore (S V)
open Idealize.ShloMosaic.SparseCore.Cfg (HIx Pay ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
/-!
  The precondition, read as the indices' range, and the kernel's result, read as the reference's.
-/

/-- The precondition's function is all ones exactly where every index names a row: here, that it says so. -/
theorem within_of_pre {F : FTy → Type} [FloatOps F] (z : IVec S100000 32) (ec : FVec F S87x20 .f32) (mw : FVec F S128x20 .f32) (zt : FVec F S86x128 .f32)
    (h : Cert.Pre_in_range.fn (F := F) z ec mw zt = fun _ => 1#1) : Lookup.Within z := by
  intro i
  have e := Host.reduce_andi_eq_one _ _ _ _ ValueIdx.ix0 (congrFun h ValueIdx.ix0) i (funext fun a => a.elim0)
  rw [Lookup.andi_at, Lookup.cmpi_at, Lookup.cmpi_at, Lookup.constant_at, Lookup.constant_at] at e
  obtain ⟨h1, h2⟩ := IntOp.andi_eq_one.1 e
  have h0 := of_decide_eq_true ((StableHlo.Predicate.ofBool_eq_one_iff _).1 h1)
  have h3 := of_decide_eq_true ((StableHlo.Predicate.ofBool_eq_one_iff _).1 h2)
  rw [BitVec.toInt_eq_toNat_cond (z i)] at h0 h3
  have := (z i).isLt
  simp at h0 h3
  split at h0 <;> omega

/-- Indices in the table's range, as the lookup takes them. -/
theorem inTable_of_within {F : FTy → Type} (IX : S100000.Idx → Elt F .i32) (h : Lookup.Within IX) : InTable IX := by
  intro r
  unfold rowOf
  split
  · exact h _
  · decide

/-- The result of the lookup at row `r`, column `c`. -/
theorem OUT_apply {F : FTy → Type} (TB : S86x128.Idx → Elt F .f32) (IX : S100000.Idx → Elt F .i32) (h : Lookup.Within IX) (r : Fin 100000) (c : Fin 128) :
    OUT TB IX (ValueIdx.ix2 r c) = TB (ValueIdx.ix2 (Lookup.rowAt h r) c) := by
  have e : rowOf IX r.val = (Lookup.rowAt h r).val := by
    unfold rowOf; rw [dif_pos r.isLt]; exact congrArg (fun i => BitVec.toNat (IX i)) (ext1 rfl)
  show TB _ = TB _
  refine congrArg TB (ext2 ?_ rfl)
  show rowOf IX r.val % 86 = _
  rw [e]; exact Nat.mod_eq_of_lt (h _)

theorem dot_transposed : dot_S86x20_S128x20_S86x128_1_1_0_0_n_n = DotDims.transposedRhs 86 20 128 := rfl

/-- The fused table at row `r`, column `c`. -/
theorem fused_apply (a : FVec Ideal S86x20 .f32) (w : FVec Ideal S128x20 .f32) (t : FVec Ideal S86x128 .f32) (r : Fin 86) (c : Fin 128) :
    fused (F := Ideal) a w t (ValueIdx.ix2 r c) = (∑ k : Fin 20, a (ValueIdx.ix2 r k) * w (ValueIdx.ix2 c k)) + t (ValueIdx.ix2 r c) := by
  unfold fused k0_pay1
  rw [shapeCast_self, ValueIdx.addf_apply, dot_transposed]
  refine congrArg (· + t (ValueIdx.ix2 r c)) ?_
  show FloatOps.matmul (DotDims.transposedRhs 86 20 128) none _ _ _ (ValueIdx.ix2 r c) = _
  rw [Ideal.matmul_transposedRhs_apply]
  show Ideal.ofBits .f32 0x00000000#32 + _ = _
  rw [Ideal.ofBits_zero_f32, zero_add]

/-- The kernel's result is the reference's. -/
theorem kernel_eq (z : IVec S100000 32) (h : Lookup.Within z) (ec : FVec Ideal S87x20 .f32) (mw : FVec Ideal S128x20 .f32) (zt : FVec Ideal S86x128 .f32) :
    OUT (F := Ideal) (fused (F := Ideal) (cut (F := Ideal) ec) mw zt) z = Lookup.refOut z ec mw zt := by
  funext y
  obtain ⟨r, c, rfl⟩ : ∃ (r : Fin 100000) (c : Fin 128), y = ValueIdx.ix2 r c := ⟨y 0, y 1, ValueIdx.eq_ix2 y⟩
  rw [Lookup.refOut_apply h, OUT_apply _ _ h]
  refine (fused_apply _ _ _ _ _).trans ?_
  refine congrArg (· + zt (ValueIdx.ix2 (Lookup.rowAt h r) c)) (Finset.sum_congr rfl fun k _ => ?_)
  refine congrArg (· * mw (ValueIdx.ix2 c k)) ?_
  exact extractStridedSlice_apply _ _ _ _ _ fun a => match a with
    | ⟨0, _⟩ => (Nat.zero_add _).symm
    | ⟨1, _⟩ => (Nat.zero_add _).symm

end Cert.Proof

end
-- ==== Proof.lean ====
/-
  The proof of `Cert.Claim`: both frames of the kernel, the reference's, that no rewrite stands between the kernel as
  printed and idealized, and that the kernel computes the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel as printed: the run of the idealized text, at the machine's own float operations. -/
theorem frame_kernel : Cert.quiescent_Kernel := by
  intro m ρ hpre
  have hrun := run_main (F := Bits) m ρ fun d => inTable_of_within _ (within_of_pre _ _ _ _ (hpre d))
  rw [← defs_eq] at hrun
  exact (θ_run Cert.Kernel.defs _ _).mono
    (fun _ h => ⟨fun c => ⟨(h.1 c).1, (h.1 c).2.1, (h.1 c).2.2.1, (h.1 c).2.2.2.1⟩, h.2⟩) hrun

/-- The kernel idealized. -/
theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1⟩, h.2⟩)
    (run_main (F := Ideal) m ρ fun d => inTable_of_within _ (within_of_pre _ _ _ _ (hpre d)))

/-- The reference, from any memory: it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference, from a memory whose indices are in range. -/
theorem frame_reference_in_range : Cert.quiescent_ReferenceIdeal_pre_in_range := fun m ρ _ => frame_reference m ρ trivial

/-- The kernel computes the reference's result. -/
theorem algebraic : Cert.algebraic_KernelIdeal_ReferenceIdeal := by
  intro m ρ m' ρ' hpre hagree
  have hz (d : Dev Cert.KernelIdeal.nD) : Lookup.Within (IXm m d) := within_of_pre _ _ _ _ (hpre d)
  refine ⟨fun c => OUT (TBm m c) (IXm m c),
    (θ_run Cert.KernelIdeal.defs _ _).mono
      (fun _ h c => ⟨(h.1 c).2.2.2.2, (h.1 c).1, (h.1 c).2.1, (h.1 c).2.2.1, (h.1 c).2.2.2.1⟩)
      (run_main (F := Ideal) m ρ fun d => inTable_of_within _ (hz d)), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [h0, h1, h2, h3]
  exact (kernel_eq (IXm m c) (hz c) _ _ _).symm

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
